-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S4x256x512 : Shape := ⟨3, ![4, 256, 512]⟩
abbrev S2x256x512 : Shape := ⟨3, ![2, 256, 512]⟩
abbrev S10 : Shape := ⟨1, ![10]⟩
abbrev S_ : Shape := ⟨0, ![]⟩
abbrev S256x128 : Shape := ⟨2, ![256, 128]⟩
abbrev S1x256x128 : Shape := ⟨3, ![1, 256, 128]⟩
abbrev S8x256x128 : Shape := ⟨3, ![8, 256, 128]⟩
abbrev S8x256x256 : Shape := ⟨3, ![8, 256, 256]⟩
abbrev S8x256 : Shape := ⟨2, ![8, 256]⟩
abbrev S8x256x1 : Shape := ⟨3, ![8, 256, 1]⟩
abbrev S256x1024 : Shape := ⟨2, ![256, 1024]⟩
abbrev S256x512 : Shape := ⟨2, ![256, 512]⟩
abbrev S1x256x512 : Shape := ⟨3, ![1, 256, 512]⟩
abbrev S1 : Shape := ⟨1, ![1]⟩

abbrev nBuf : Space → Nat
  | .hbm => 6
  | .vmem => 14
  | .smem => 0
  | _ => 0

abbrev bufTy : (tb : Table) → Fin (tcTables nBuf tb) → BufTy
  | .hbm, ⟨0, _⟩ => ⟨S4x256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S4x256x1024, .bf16⟩
  | .local _ .vmem, ⟨0, _⟩ => ⟨S4x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S4x256x1024, .bf16⟩
  | .local _ .vmem, ⟨6, _⟩ => ⟨S4x256x512, .bf16⟩
  | .local _ .vmem, ⟨7, _⟩ => ⟨S4x256x512, .bf16⟩
  | .local _ .vmem, ⟨8, _⟩ => ⟨S2x256x512, .bf16⟩
  | .local _ .vmem, ⟨9, _⟩ => ⟨S2x256x512, .bf16⟩
  | .local _ .vmem, ⟨10, _⟩ => ⟨S2x256x512, .bf16⟩
  | .local _ .vmem, ⟨11, _⟩ => ⟨S2x256x512, .bf16⟩
  | .local _ .vmem, ⟨12, _⟩ => ⟨S4x256x512, .bf16⟩
  | .local _ .vmem, ⟨13, _⟩ => ⟨S4x256x512, .bf16⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v147 : BitVec 1 := Scalar.cmpi .eq v2 c1_i32_43
  let c2_i32_44 : BitVec 32 := 2#32
  let v148 : BitVec 1 := Scalar.cmpi .eq v2 c2_i32_44
  let v149 : BitVec 1 := Scalar.ori v147 v148
  let v153 : BitVec 32 := Scalar.extui v149
  let c0_i32_46 : BitVec 32 := 0#32
  let v154 : BitVec 1 := Scalar.cmpi .ne v153 c0_i32_46
  v154

def k0_dev3 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v499 : BitVec 32 := Scalar.xori v2 c1_i32_107
  let c1_i32_112 : BitVec 32 := 1#32
  let v500 : BitVec 32 := Scalar.muli v499 c1_i32_112
  let v501 : BitVec 32 := Scalar.addi c0_i32_113 v500
  v501.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v150 : BitVec 1 := Scalar.cmpi .eq v2 c2_i32_45
  let c3_i32 : BitVec 32 := 3#32
  let v151 : BitVec 1 := Scalar.cmpi .eq v2 c3_i32
  let v152 : BitVec 1 := Scalar.ori v150 v151
  let v155 : BitVec 32 := Scalar.extui v152
  let c0_i32_47 : BitVec 32 := 0#32
  let v156 : BitVec 1 := Scalar.cmpi .ne v155 c0_i32_47
  v156

def k0_dev4 (d0 : Dev nD) : Nat :=
  let c0_i32_113 : BitVec 32 := 0#32
  let c3_i32_107 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v499 : BitVec 32 := Scalar.subi c3_i32_107 v2
  let c1_i32_112 : BitVec 32 := 1#32
  let v500 : BitVec 32 := Scalar.muli v499 c1_i32_112
  let v501 : BitVec 32 := Scalar.addi c0_i32_113 v500
  v501.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_59 : BitVec 32 := 1#32
  let v257 : BitVec 1 := Scalar.cmpi .eq v2 c1_i32_59
  let c2_i32_60 : BitVec 32 := 2#32
  let v258 : BitVec 1 := Scalar.cmpi .eq v2 c2_i32_60
  let v259 : BitVec 1 := Scalar.ori v257 v258
  let v263 : BitVec 32 := Scalar.extui v259
  let c0_i32_63 : BitVec 32 := 0#32
  let v264 : BitVec 1 := Scalar.cmpi .ne v263 c0_i32_63
  v264

def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v499 : BitVec 32 := Scalar.xori v2 c1_i32_107
  let c1_i32_112 : BitVec 32 := 1#32
  let v500 : BitVec 32 := Scalar.muli v499 c1_i32_112
  let v501 : BitVec 32 := Scalar.addi c0_i32_113 v500
  v501.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_61 : BitVec 32 := 2#32
  let v260 : BitVec 1 := Scalar.cmpi .eq v2 c2_i32_61
  let c3_i32_62 : BitVec 32 := 3#32
  let v261 : BitVec 1 := Scalar.cmpi .eq v2 c3_i32_62
  let v262 : BitVec 1 := Scalar.ori v260 v261
  let v265 : BitVec 32 := Scalar.extui v262
  let c0_i32_64 : BitVec 32 := 0#32
  let v266 : BitVec 1 := Scalar.cmpi .ne v265 c0_i32_64
  v266

def k0_dev6 (d0 : Dev nD) : Nat :=
  let c0_i32_112 : BitVec 32 := 0#32
  let c3_i32_107 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v499 : BitVec 32 := Scalar.subi c3_i32_107 v2
  let c1_i32_111 : BitVec 32 := 1#32
  let v500 : BitVec 32 := Scalar.muli v499 c1_i32_111
  let v501 : BitVec 32 := Scalar.addi c0_i32_112 v500
  v501.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_76 : BitVec 32 := 0#32
  let v367 : BitVec 1 := Scalar.cmpi .eq v2 c0_i32_76
  let c3_i32_77 : BitVec 32 := 3#32
  let v368 : BitVec 1 := Scalar.cmpi .eq v2 c3_i32_77
  let v369 : BitVec 1 := Scalar.ori v367 v368
  let v373 : BitVec 32 := Scalar.extui v369
  let c0_i32_80 : BitVec 32 := 0#32
  let v374 : BitVec 1 := Scalar.cmpi .ne v373 c0_i32_80
  v374

def k0_dev7 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v499 : BitVec 32 := Scalar.xori v2 c1_i32_107
  let c1_i32_112 : BitVec 32 := 1#32
  let v500 : BitVec 32 := Scalar.muli v499 c1_i32_112
  let v501 : BitVec 32 := Scalar.addi c0_i32_113 v500
  v501.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_78 : BitVec 32 := 0#32
  let v370 : BitVec 1 := Scalar.cmpi .eq v2 c0_i32_78
  let c1_i32_79 : BitVec 32 := 1#32
  let v371 : BitVec 1 := Scalar.cmpi .eq v2 c1_i32_79
  let v372 : BitVec 1 := Scalar.ori v370 v371
  let v375 : BitVec 32 := Scalar.extui v372
  let c0_i32_81 : BitVec 32 := 0#32
  let v376 : BitVec 1 := Scalar.cmpi .ne v375 c0_i32_81
  v376

def k0_dev8 (d0 : Dev nD) : Nat :=
  let c0_i32_113 : BitVec 32 := 0#32
  let c3_i32_107 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v499 : BitVec 32 := Scalar.subi c3_i32_107 v2
  let c1_i32_112 : BitVec 32 := 1#32
  let v500 : BitVec 32 := Scalar.muli v499 c1_i32_112
  let v501 : BitVec 32 := Scalar.addi c0_i32_113 v500
  v501.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_93 : BitVec 32 := 0#32
  let v477 : BitVec 1 := Scalar.cmpi .eq v2 c0_i32_93
  let c3_i32_94 : BitVec 32 := 3#32
  let v478 : BitVec 1 := Scalar.cmpi .eq v2 c3_i32_94
  let v479 : BitVec 1 := Scalar.ori v477 v478
  let v483 : BitVec 32 := Scalar.extui v479
  let c0_i32_97 : BitVec 32 := 0#32
  let v484 : BitVec 1 := Scalar.cmpi .ne v483 c0_i32_97
  v484

def k0_dev9 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v499 : BitVec 32 := Scalar.xori v2 c1_i32_107
  let c1_i32_112 : BitVec 32 := 1#32
  let v500 : BitVec 32 := Scalar.muli v499 c1_i32_112
  let v501 : BitVec 32 := Scalar.addi c0_i32_113 v500
  v501.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_95 : BitVec 32 := 0#32
  let v480 : BitVec 1 := Scalar.cmpi .eq v2 c0_i32_95
  let c1_i32_96 : BitVec 32 := 1#32
  let v481 : BitVec 1 := Scalar.cmpi .eq v2 c1_i32_96
  let v482 : BitVec 1 := Scalar.ori v480 v481
  let v485 : BitVec 32 := Scalar.extui v482
  let c0_i32_98 : BitVec 32 := 0#32
  let v486 : BitVec 1 := Scalar.cmpi .ne v485 c0_i32_98
  v486

def k0_dev10 (d0 : Dev nD) : Nat :=
  let c0_i32_112 : BitVec 32 := 0#32
  let c3_i32_107 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v499 : BitVec 32 := Scalar.subi c3_i32_107 v2
  let c1_i32_111 : BitVec 32 := 1#32
  let v500 : BitVec 32 := Scalar.muli v499 c1_i32_111
  let v501 : BitVec 32 := Scalar.addi c0_i32_112 v500
  v501.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_99 : BitVec 32 := 0#32
  let v487 : BitVec 1 := Scalar.cmpi .eq v2 c0_i32_99
  let v488 : BitVec 32 := Scalar.extui v487
  let c0_i32_100 : BitVec 32 := 0#32
  let v489 : BitVec 1 := Scalar.cmpi .ne v488 c0_i32_100
  v489

def k0_dev11 : Nat :=
  let c0_i32_214 : BitVec 32 := 0#32
  let c3_i32_212 : BitVec 32 := 3#32
  let c1_i32_213 : BitVec 32 := 1#32
  let v567 : BitVec 32 := Scalar.muli c3_i32_212 c1_i32_213
  let v568 : BitVec 32 := Scalar.addi c0_i32_214 v567
  v568.toNat
def k0_dev12 : Nat :=
  let c0_i32_224 : BitVec 32 := 0#32
  let c1_i32_222 : BitVec 32 := 1#32
  let c1_i32_223 : BitVec 32 := 1#32
  let v577 : BitVec 32 := Scalar.muli c1_i32_222 c1_i32_223
  let v578 : BitVec 32 := Scalar.addi c0_i32_224 v577
  v578.toNat
def k0_dev13 : Nat :=
  let c0_i32_295 : BitVec 32 := 0#32
  let c3_i32_293 : BitVec 32 := 3#32
  let c1_i32_294 : BitVec 32 := 1#32
  let v631 : BitVec 32 := Scalar.muli c3_i32_293 c1_i32_294
  let v632 : BitVec 32 := Scalar.addi c0_i32_295 v631
  v632.toNat
def k0_dev14 : Nat :=
  let c0_i32_305 : BitVec 32 := 0#32
  let c1_i32_303 : BitVec 32 := 1#32
  let c1_i32_304 : BitVec 32 := 1#32
  let v641 : BitVec 32 := Scalar.muli c1_i32_303 c1_i32_304
  let v642 : BitVec 32 := Scalar.addi c0_i32_305 v641
  v642.toNat
def k0_dev15 : Nat :=
  let c0_i32_366 : BitVec 32 := 0#32
  let c1_i32_364 : BitVec 32 := 1#32
  let c1_i32_365 : BitVec 32 := 1#32
  let v689 : BitVec 32 := Scalar.muli c1_i32_364 c1_i32_365
  let v690 : BitVec 32 := Scalar.addi c0_i32_366 v689
  v690.toNat
def k0_dev16 : Nat :=
  let c0_i32_376 : BitVec 32 := 0#32
  let c3_i32_374 : BitVec 32 := 3#32
  let c1_i32_375 : BitVec 32 := 1#32
  let v697 : BitVec 32 := Scalar.muli c3_i32_374 c1_i32_375
  let v698 : BitVec 32 := Scalar.addi c0_i32_376 v697
  v698.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_101 : BitVec 32 := 1#32
  let v490 : BitVec 1 := Scalar.cmpi .eq v2 c1_i32_101
  let v491 : BitVec 32 := Scalar.extui v490
  let c0_i32_102 : BitVec 32 := 0#32
  let v492 : BitVec 1 := Scalar.cmpi .ne v491 c0_i32_102
  v492

def k0_dev17 : Nat :=
  let c0_i32_214 : BitVec 32 := 0#32
  let c2_i32_212 : BitVec 32 := 2#32
  let c1_i32_213 : BitVec 32 := 1#32
  let v567 : BitVec 32 := Scalar.muli c2_i32_212 c1_i32_213
  let v568 : BitVec 32 := Scalar.addi c0_i32_214 v567
  v568.toNat
def k0_dev18 : Nat :=
  let c0_i32_224 : BitVec 32 := 0#32
  let c0_i32_222 : BitVec 32 := 0#32
  let c1_i32_223 : BitVec 32 := 1#32
  let v577 : BitVec 32 := Scalar.muli c0_i32_222 c1_i32_223
  let v578 : BitVec 32 := Scalar.addi c0_i32_224 v577
  v578.toNat
def k0_dev19 : Nat :=
  let c0_i32_295 : BitVec 32 := 0#32
  let c2_i32_293 : BitVec 32 := 2#32
  let c1_i32_294 : BitVec 32 := 1#32
  let v631 : BitVec 32 := Scalar.muli c2_i32_293 c1_i32_294
  let v632 : BitVec 32 := Scalar.addi c0_i32_295 v631
  v632.toNat
def k0_dev20 : Nat :=
  let c0_i32_305 : BitVec 32 := 0#32
  let c0_i32_303 : BitVec 32 := 0#32
  let c1_i32_304 : BitVec 32 := 1#32
  let v641 : BitVec 32 := Scalar.muli c0_i32_303 c1_i32_304
  let v642 : BitVec 32 := Scalar.addi c0_i32_305 v641
  v642.toNat
def k0_dev21 : Nat :=
  let c0_i32_366 : BitVec 32 := 0#32
  let c0_i32_364 : BitVec 32 := 0#32
  let c1_i32_365 : BitVec 32 := 1#32
  let v689 : BitVec 32 := Scalar.muli c0_i32_364 c1_i32_365
  let v690 : BitVec 32 := Scalar.addi c0_i32_366 v689
  v690.toNat
def k0_dev22 : Nat :=
  let c0_i32_376 : BitVec 32 := 0#32
  let c2_i32_374 : BitVec 32 := 2#32
  let c1_i32_375 : BitVec 32 := 1#32
  let v697 : BitVec 32 := Scalar.muli c2_i32_374 c1_i32_375
  let v698 : BitVec 32 := Scalar.addi c0_i32_376 v697
  v698.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_103 : BitVec 32 := 2#32
  let v493 : BitVec 1 := Scalar.cmpi .eq v2 c2_i32_103
  let v494 : BitVec 32 := Scalar.extui v493
  let c0_i32_104 : BitVec 32 := 0#32
  let v495 : BitVec 1 := Scalar.cmpi .ne v494 c0_i32_104
  v495

def k0_dev23 : Nat :=
  let c0_i32_214 : BitVec 32 := 0#32
  let c1_i32_212 : BitVec 32 := 1#32
  let c1_i32_213 : BitVec 32 := 1#32
  let v567 : BitVec 32 := Scalar.muli c1_i32_212 c1_i32_213
  let v568 : BitVec 32 := Scalar.addi c0_i32_214 v567
  v568.toNat
def k0_dev24 : Nat :=
  let c0_i32_224 : BitVec 32 := 0#32
  let c3_i32_222 : BitVec 32 := 3#32
  let c1_i32_223 : BitVec 32 := 1#32
  let v577 : BitVec 32 := Scalar.muli c3_i32_222 c1_i32_223
  let v578 : BitVec 32 := Scalar.addi c0_i32_224 v577
  v578.toNat
def k0_dev25 : Nat :=
  let c0_i32_295 : BitVec 32 := 0#32
  let c1_i32_293 : BitVec 32 := 1#32
  let c1_i32_294 : BitVec 32 := 1#32
  let v631 : BitVec 32 := Scalar.muli c1_i32_293 c1_i32_294
  let v632 : BitVec 32 := Scalar.addi c0_i32_295 v631
  v632.toNat
def k0_dev26 : Nat :=
  let c0_i32_305 : BitVec 32 := 0#32
  let c3_i32_303 : BitVec 32 := 3#32
  let c1_i32_304 : BitVec 32 := 1#32
  let v641 : BitVec 32 := Scalar.muli c3_i32_303 c1_i32_304
  let v642 : BitVec 32 := Scalar.addi c0_i32_305 v641
  v642.toNat
def k0_dev27 : Nat :=
  let c0_i32_366 : BitVec 32 := 0#32
  let c3_i32_364 : BitVec 32 := 3#32
  let c1_i32_365 : BitVec 32 := 1#32
  let v689 : BitVec 32 := Scalar.muli c3_i32_364 c1_i32_365
  let v690 : BitVec 32 := Scalar.addi c0_i32_366 v689
  v690.toNat
def k0_dev28 : Nat :=
  let c0_i32_376 : BitVec 32 := 0#32
  let c1_i32_374 : BitVec 32 := 1#32
  let c1_i32_375 : BitVec 32 := 1#32
  let v697 : BitVec 32 := Scalar.muli c1_i32_374 c1_i32_375
  let v698 : BitVec 32 := Scalar.addi c0_i32_376 v697
  v698.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_105 : BitVec 32 := 3#32
  let v496 : BitVec 1 := Scalar.cmpi .eq v2 c3_i32_105
  let v497 : BitVec 32 := Scalar.extui v496
  let c0_i32_106 : BitVec 32 := 0#32
  let v498 : BitVec 1 := Scalar.cmpi .ne v497 c0_i32_106
  v498

def k0_dev29 : Nat :=
  let c0_i32_214 : BitVec 32 := 0#32
  let c0_i32_212 : BitVec 32 := 0#32
  let c1_i32_213 : BitVec 32 := 1#32
  let v567 : BitVec 32 := Scalar.muli c0_i32_212 c1_i32_213
  let v568 : BitVec 32 := Scalar.addi c0_i32_214 v567
  v568.toNat
def k0_dev30 : Nat :=
  let c0_i32_224 : BitVec 32 := 0#32
  let c2_i32_222 : BitVec 32 := 2#32
  let c1_i32_223 : BitVec 32 := 1#32
  let v577 : BitVec 32 := Scalar.muli c2_i32_222 c1_i32_223
  let v578 : BitVec 32 := Scalar.addi c0_i32_224 v577
  v578.toNat
def k0_dev31 : Nat :=
  let c0_i32_295 : BitVec 32 := 0#32
  let c0_i32_293 : BitVec 32 := 0#32
  let c1_i32_294 : BitVec 32 := 1#32
  let v631 : BitVec 32 := Scalar.muli c0_i32_293 c1_i32_294
  let v632 : BitVec 32 := Scalar.addi c0_i32_295 v631
  v632.toNat
def k0_dev32 : Nat :=
  let c0_i32_305 : BitVec 32 := 0#32
  let c2_i32_303 : BitVec 32 := 2#32
  let c1_i32_304 : BitVec 32 := 1#32
  let v641 : BitVec 32 := Scalar.muli c2_i32_303 c1_i32_304
  let v642 : BitVec 32 := Scalar.addi c0_i32_305 v641
  v642.toNat
def k0_dev33 : Nat :=
  let c0_i32_366 : BitVec 32 := 0#32
  let c2_i32_364 : BitVec 32 := 2#32
  let c1_i32_365 : BitVec 32 := 1#32
  let v689 : BitVec 32 := Scalar.muli c2_i32_364 c1_i32_365
  let v690 : BitVec 32 := Scalar.addi c0_i32_366 v689
  v690.toNat
def k0_dev34 : Nat :=
  let c0_i32_376 : BitVec 32 := 0#32
  let c0_i32_374 : BitVec 32 := 0#32
  let c1_i32_375 : BitVec 32 := 1#32
  let v697 : BitVec 32 := Scalar.muli c0_i32_374 c1_i32_375
  let v698 : BitVec 32 := Scalar.addi c0_i32_376 v697
  v698.toNat
abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x4096 : Shape := ⟨2, ![1024, 4096]⟩
abbrev S4096x1024 : Shape := ⟨2, ![4096, 1024]⟩
abbrev S4x256x4096 : Shape := ⟨3, ![4, 256, 4096]⟩
abbrev S4x256x32x128 : Shape := ⟨4, ![4, 256, 32, 128]⟩
abbrev S_ : Shape := ⟨0, ![]⟩
abbrev S4x32x256x1 : Shape := ⟨4, ![4, 32, 256, 1]⟩
abbrev S4x32x256x256 : Shape := ⟨4, ![4, 32, 256, 256]⟩
abbrev S4x32x256 : Shape := ⟨3, ![4, 32, 256]⟩
abbrev S4x256x32x1 : Shape := ⟨4, ![4, 256, 32, 1]⟩
abbrev S4x32x128x256 : Shape := ⟨4, ![4, 32, 128, 256]⟩

abbrev nBuf : Space → Nat
  | .hbm => 54
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S1024x4096, .bf16⟩
  | .hbm, ⟨2, _⟩ => ⟨S4096x1024, .bf16⟩
  | .hbm, ⟨3, _⟩ => ⟨S1024x4096, .bf16⟩
  | .hbm, ⟨4, _⟩ => ⟨S1024x4096, .bf16⟩
  | .hbm, ⟨5, _⟩ => ⟨S4x256x4096, .f32⟩
  | .hbm, ⟨6, _⟩ => ⟨S4x256x4096, .bf16⟩
  | .hbm, ⟨7, _⟩ => ⟨S4x256x32x128, .bf16⟩
  | .hbm, ⟨8, _⟩ => ⟨S4x256x4096, .f32⟩
  | .hbm, ⟨9, _⟩ => ⟨S4x256x4096, .bf16⟩
  | .hbm, ⟨10, _⟩ => ⟨S4x256x32x128, .bf16⟩
  | .hbm, ⟨11, _⟩ => ⟨S4x256x4096, .f32⟩
  | .hbm, ⟨12, _⟩ => ⟨S4x256x4096, .bf16⟩
  | .hbm, ⟨13, _⟩ => ⟨S4x256x32x128, .bf16⟩
  | .hbm, ⟨14, _⟩ => ⟨S_, .f32⟩
  | .hbm, ⟨15, _⟩ => ⟨S4x256x32x128, .f32⟩
  | .hbm, ⟨16, _⟩ => ⟨S_, .f32⟩
  | .hbm, ⟨17, _⟩ => ⟨S4x32x256x1, .f32⟩
  | .hbm, ⟨18, _⟩ => ⟨S_, .f32⟩
  | .hbm, ⟨19, _⟩ => ⟨S4x32x256x1, .f32⟩
  | .hbm, ⟨20, _⟩ => ⟨S4x32x256x256, .f32⟩
  | .hbm, ⟨21, _⟩ => ⟨S4x32x256x256, .bf16⟩
  | .hbm, ⟨22, _⟩ => ⟨S4x32x256x256, .f32⟩
  | .hbm, ⟨23, _⟩ => ⟨S_, .f32⟩
  | .hbm, ⟨24, _⟩ => ⟨S4x32x256x256, .f32⟩
  | .hbm, ⟨25, _⟩ => ⟨S4x32x256x256, .f32⟩
  | .hbm, ⟨26, _⟩ => ⟨S_, .f32⟩
  | .hbm, ⟨27, _⟩ => ⟨S4x32x256, .f32⟩
  | .hbm, ⟨28, _⟩ => ⟨S4x32x256x1, .f32⟩
  | .hbm, ⟨29, _⟩ => ⟨S4x32x256x1, .f32⟩
  | .hbm, ⟨30, _⟩ => ⟨S4x32x256x1, .f32⟩
  | .hbm, ⟨31, _⟩ => ⟨S4x32x256x1, .f32⟩
  | .hbm, ⟨32, _⟩ => ⟨S4x32x256x256, .f32⟩
  | .hbm, ⟨33, _⟩ => ⟨S4x32x256x256, .f32⟩
  | .hbm, ⟨34, _⟩ => ⟨S4x32x256x256, .f32⟩
  | .hbm, ⟨35, _⟩ => ⟨S4x32x256x1, .f32⟩
  | .hbm, ⟨36, _⟩ => ⟨S_, .f32⟩
  | .hbm, ⟨37, _⟩ => ⟨S4x32x256, .f32⟩
  | .hbm, ⟨38, _⟩ => ⟨S4x32x256x1, .f32⟩
  | .hbm, ⟨39, _⟩ => ⟨S4x32x256x1, .f32⟩
  | .hbm, ⟨40, _⟩ => ⟨S4x256x32x1, .f32⟩
  | .hbm, ⟨41, _⟩ => ⟨S4x256x32x128, .f32⟩
  | .hbm, ⟨42, _⟩ => ⟨S4x256x32x128, .f32⟩
  | .hbm, ⟨43, _⟩ => ⟨S4x256x32x128, .f32⟩
  | .hbm, ⟨44, _⟩ => ⟨S4x32x128x256, .f32⟩
  | .hbm, ⟨45, _⟩ => ⟨S4x256x32x128, .f32⟩
  | .hbm, ⟨46, _⟩ => ⟨S4x256x32x128, .f32⟩
  | .hbm, ⟨47, _⟩ => ⟨S4x256x32x1, .f32⟩
  | .hbm, ⟨48, _⟩ => ⟨S4x256x32x128, .f32⟩
  | .hbm, ⟨49, _⟩ => ⟨S4x256x32x128, .f32⟩
  | .hbm, ⟨50, _⟩ => ⟨S4x256x4096, .f32⟩
  | .hbm, ⟨51, _⟩ => ⟨S4096x1024, .f32⟩
  | .hbm, ⟨52, _⟩ => ⟨S4x256x1024, .f32⟩
  | .hbm, ⟨53, _⟩ => ⟨S4x256x1024, .bf16⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.Exchange.Planes.lean ====
/-
Arrays of planes of 256 rows and 512 columns: how a run of consecutive planes sits in such an array, and what is
read from it and written to it. Nothing here is about one kernel.
-/
module

public import Idealize.ShloMosaic.Lib.Tactic

@[expose] public section

noncomputable section

namespace Cert.Planes

open Idealize.ShloMosaic

variable {α : Type}

/-- The shape of `n` planes. -/
abbrev Sh (n : ℕ) : Shape := ⟨3, ![n, 256, 512]⟩

/-- The array whose plane `b` is `X b`. -/
def stack (n : ℕ) (X : ℕ → ℕ → ℕ → α) : (Sh n).Idx → α := fun i => X (i 0).val (i 1).val (i 2).val

/-- The elements of `k` planes from plane `b` on. -/
def slabs (n b k : ℕ) : Finset (Sh n).Idx := Finset.univ.filter fun i => b ≤ (i 0).val ∧ (i 0).val < b + k

theorem mem_slabs {n b k : ℕ} {i : (Sh n).Idx} : i ∈ slabs n b k ↔ b ≤ (i 0).val ∧ (i 0).val < b + k := by
  simp [slabs]

theorem sl_inb {n b k : ℕ} (h : b + k ≤ n) : ∀ a, (![b, 0, 0] : Fin 3 → ℕ) a + (Sh k).size a ≤ (Sh n).size a := by
  intro a
  fin_cases a
  · exact h
  · exact Nat.le_of_eq (Nat.zero_add _)
  · exact Nat.le_of_eq (Nat.zero_add _)

/-- The rectangle of `k` planes from plane `b` on. -/
abbrev sl (n b k : ℕ) (h : b + k ≤ n) : Rect (Sh n) := Rect.unit (s := Sh n) ![b, 0, 0] (Sh k).size (sl_inb h)

theorem sl_set {n b k : ℕ} (h : b + k ≤ n) : (sl n b k h).set = slabs n b k := by
  ext i
  rw [Rect.mem_set_unit, mem_slabs]
  constructor
  · intro hi; exact hi 0
  · intro hi a
    fin_cases a
    · exact hi
    · exact ⟨Nat.zero_le _, by have := (i 1).isLt; simpa using this⟩
    · exact ⟨Nat.zero_le _, by have := (i 2).isLt; simpa using this⟩

/-- What an array of planes holds under a run of planes is the array of those planes. -/
theorem stack_emb {n b k : ℕ} (h : b + k ≤ n) (X : ℕ → ℕ → ℕ → α) (j : (Sh k).Idx) :
    stack n X ((sl n b k h).emb j) = stack k (fun s => X (b + s)) j := by
  unfold stack
  have h0 : ((sl n b k h).emb j 0).val = b + (j 0).val := by rw [Rect.emb_apply]; simp
  have h1 : ((sl n b k h).emb j 1).val = (j 1).val := by rw [Rect.emb_apply]; simp
  have h2 : ((sl n b k h).emb j 2).val = (j 2).val := by rw [Rect.emb_apply]; simp
  rw [h0, h1, h2]

theorem slabs_disjoint {n b k b' k' : ℕ} (h : b + k ≤ b' ∨ b' + k' ≤ b) : Disjoint (slabs n b k) (slabs n b' k') := by
  rw [Finset.disjoint_left]; intro i hi hj
  rw [mem_slabs] at hi hj; omega

theorem slabs_subset {n b k b' k' : ℕ} (h : b' ≤ b) (h' : b + k ≤ b' + k') : slabs n b k ⊆ slabs n b' k' := by
  intro i hi; rw [mem_slabs] at hi ⊢; omega

theorem slabs_append (n b k k' : ℕ) : slabs n b (k + k') = slabs n b k ∪ slabs n (b + k) k' := by
  ext i; rw [Finset.mem_union, mem_slabs, mem_slabs, mem_slabs]; omega

theorem slabs_univ (n : ℕ) : slabs n 0 n = Finset.univ := by
  ext i; have := (i 0).isLt; simp [mem_slabs]; simpa using this

/-- An element of a run of planes is under the run's rectangle. -/
theorem exists_emb {n b k : ℕ} (h : b + k ≤ n) {i : (Sh n).Idx} (hi : i ∈ slabs n b k) : ∃ j, (sl n b k h).emb j = i := by
  rw [← sl_set h, ← Rect.map_emb_univ, Finset.mem_map] at hi
  obtain ⟨j, -, hj⟩ := hi; exact ⟨j, hj⟩

end Cert.Planes

end
-- ==== Proof.KernelIdeal.Tables.lean ====
/-
The exchange of the kernel: who sends what to whom, over which semaphores, and what every buffer holds.

Four devices reduce the four batches of their partial projections. The left half of the columns travels in the
buffers `A` (pa, r1a, aa, ga), the right half in the buffers `B` (pb, r1b, ab, gb). Each device keeps two batches
and sends the other two (copies 0, 1 and 4, 5), adds what arrives, exchanges one of the two sums (2 and 6), adds
again, and then hands its finished batch on (3 and 7) and its two finished batches on (8 and 9).
-/
module

public import proofs.«01_k».proof.Proof.Gen.KernelIdeal.Skeleton
public import proofs.«01_k».proof.Proof.Gen.KernelIdeal.Launch
public import proofs.«01_k».proof.Proof.Exchange.Planes
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The tables -/

set_option backward.proofsInPublic true in
/-- The partner that differs in the last bit, -/
def p1 (c : Dev nD) : Dev nD := ⟨c.val + 1 - 2 * (c.val % 2), by have := c.isLt; change _ < 4; change _ < 4 at this; omega⟩
set_option backward.proofsInPublic true in
/-- the partner across, -/
def p2 (c : Dev nD) : Dev nD := ⟨3 - c.val, by change _ < 4; omega⟩
set_option backward.proofsInPublic true in
/-- and the two neighbours that are told the kernel has begun. -/
def pl (c : Dev nD) : Dev nD := ⟨(c.val + 3) % 4, Nat.mod_lt _ (by decide)⟩
set_option backward.proofsInPublic true in
def pr (c : Dev nD) : Dev nD := ⟨(c.val + 1) % 4, Nat.mod_lt _ (by decide)⟩

/-- First batch kept and first batch sent, the batch finished here and the other batch kept (as batches, and as slots
    of the pair kept): left half. -/
def h0 (c : Dev nD) : ℕ := (![0, 2, 2, 0] : Fin 4 → ℕ) c
def hb0 (c : Dev nD) : ℕ := (![2, 0, 0, 2] : Fin 4 → ℕ) c
def kb (c : Dev nD) : ℕ := (![0, 2, 3, 1] : Fin 4 → ℕ) c
def sb (c : Dev nD) : ℕ := (![1, 3, 2, 0] : Fin 4 → ℕ) c
def ki (c : Dev nD) : ℕ := (![0, 0, 1, 1] : Fin 4 → ℕ) c
def si (c : Dev nD) : ℕ := (![1, 1, 0, 0] : Fin 4 → ℕ) c
/-- The same for the right half. -/
def bh0 (c : Dev nD) : ℕ := (![0, 0, 2, 2] : Fin 4 → ℕ) c
def bhb0 (c : Dev nD) : ℕ := (![2, 2, 0, 0] : Fin 4 → ℕ) c
def bkb (c : Dev nD) : ℕ := (![0, 1, 2, 3] : Fin 4 → ℕ) c
def bsb (c : Dev nD) : ℕ := (![1, 0, 3, 2] : Fin 4 → ℕ) c
def bki (c : Dev nD) : ℕ := (![0, 1, 0, 1] : Fin 4 → ℕ) c
def bsi (c : Dev nD) : ℕ := (![1, 0, 1, 0] : Fin 4 → ℕ) c

/-- The device copy `j` of device `c` goes to — and comes from. -/
def peer (j : Fin 10) (c : Dev nD) : Dev nD := if j ∈ ({2, 3, 4, 5, 9} : Finset (Fin 10)) then p2 c else p1 c

theorem peer_peer (j : Fin 10) (c : Dev nD) : peer j (peer j c) = c := by revert j c; decide
theorem pl_pr (c : Dev nD) : pl (pr c) = c := by revert c; decide
theorem pr_pl (c : Dev nD) : pr (pl c) = c := by revert c; decide
theorem pl_ne_pr (c : Dev nD) : pl c ≠ pr c := by revert c; decide
theorem peer_cases (j : Fin 10) (c : Dev nD) : peer j c = pl c ∨ peer j c = pr c := by revert j c; decide

theorem dev1_eq (c : Dev nD) : (⟨k0_dev1 c, k0_dev1_lt c⟩ : Dev nD) = pl c :=
  Fin.ext ((by decide +kernel : ∀ d : Dev nD, k0_dev1 d = (pl d).val) c)
theorem dev2_eq (c : Dev nD) : (⟨k0_dev2 c, k0_dev2_lt c⟩ : Dev nD) = pr c :=
  Fin.ext ((by decide +kernel : ∀ d : Dev nD, k0_dev2 d = (pr d).val) c)

theorem h0_lt (c : Dev nD) : h0 c + 2 ≤ 4 := by revert c; decide
theorem hb0_lt (c : Dev nD) : hb0 c + 2 ≤ 4 := by revert c; decide
theorem hb0_lt0 (c : Dev nD) : hb0 c + 1 ≤ 4 := by revert c; decide
theorem hb0_lt1 (c : Dev nD) : hb0 c + 1 + 1 ≤ 4 := by revert c; decide
theorem kb_lt (c : Dev nD) : kb c + 1 ≤ 4 := by revert c; decide
theorem sb_lt (c : Dev nD) : sb c + 1 ≤ 4 := by revert c; decide
theorem ki_lt (c : Dev nD) : ki c + 1 ≤ 2 := by revert c; decide
theorem si_lt (c : Dev nD) : si c + 1 ≤ 2 := by revert c; decide
theorem bh0_lt (c : Dev nD) : bh0 c + 2 ≤ 4 := by revert c; decide
theorem bhb0_lt (c : Dev nD) : bhb0 c + 2 ≤ 4 := by revert c; decide
theorem bhb0_lt0 (c : Dev nD) : bhb0 c + 1 ≤ 4 := by revert c; decide
theorem bhb0_lt1 (c : Dev nD) : bhb0 c + 1 + 1 ≤ 4 := by revert c; decide
theorem bkb_lt (c : Dev nD) : bkb c + 1 ≤ 4 := by revert c; decide
theorem bsb_lt (c : Dev nD) : bsb c + 1 ≤ 4 := by revert c; decide
theorem bki_lt (c : Dev nD) : bki c + 1 ≤ 2 := by revert c; decide
theorem bsi_lt (c : Dev nD) : bsi c + 1 ≤ 2 := by revert c; decide

/-! ## The semaphores -/

/-- The runtime's barrier semaphore; the send and the receive semaphore of copy `j`. -/
abbrev barS : Sem sig := (SemArray.scalar (sig.barrier 0 rfl) : Sems sig S_).sem
set_option backward.proofsInPublic true in
def sndS (j : Fin 10) : DmaSem sig := ⟨6 + j.val, by have := j.isLt; change _ < 26; omega⟩
set_option backward.proofsInPublic true in
def rcvS (j : Fin 10) : DmaSem sig := ⟨16 + j.val, by have := j.isLt; change _ < 26; omega⟩

/-- A cell of the exchange: the barrier's, or copy `j`'s send or receive cell. -/
abbrev Knd : Type := Option (Bool × Fin 10)

abbrev csem : Knd → SemLoc sig
  | none => .reg barS
  | some (false, j) => .dma (sndS j)
  | some (true, j) => .dma (rcvS j)

/-- Which cell of the exchange a semaphore is, if it is one. -/
def knd : SemLoc sig → Option Knd
  | .reg _ => some none
  | .dma q => if h : 6 ≤ q.val ∧ q.val < 16 then some (some (false, ⟨q.val - 6, by omega⟩))
      else if h : 16 ≤ q.val ∧ q.val < 26 then some (some (true, ⟨q.val - 16, by omega⟩)) else none

theorem knd_csem (k : Knd) : knd (csem k) = some k := by revert k; decide
theorem csem_inj : Function.Injective csem := fun k k' h => Option.some.inj (by rw [← knd_csem k, ← knd_csem k', h])

abbrev kcell (ck : Dev nD × Knd) : GSem nD τ sig := ((ck.1 : Thread nD τ), csem ck.2)
abbrev barCell (c : Dev nD) : GSem nD τ sig := kcell (c, none)
abbrev sendCell (c : Dev nD) (j : Fin 10) : GSem nD τ sig := kcell (c, some (false, j))
abbrev recvCell (c : Dev nD) (j : Fin 10) : GSem nD τ sig := kcell (c, some (true, j))

theorem kcell_injective : Function.Injective (kcell : Dev nD × Knd → GSem nD τ sig) := by
  rintro ⟨c, k⟩ ⟨c', k'⟩ h
  have h1 : c = c' := congrArg (fun g : GSem nD τ sig => g.1.1) h
  have h2 : csem k = csem k' := congrArg Prod.snd h
  rw [h1, csem_inj h2]

/-! ## The buffers -/

abbrev paM : Memref sig .tc .vmem S4x256x512 .bf16 := Memref.whole cc0_scratch0
abbrev pbM : Memref sig .tc .vmem S4x256x512 .bf16 := Memref.whole cc0_scratch1
abbrev raM : Memref sig .tc .vmem S2x256x512 .bf16 := Memref.whole cc0_scratch2
abbrev rbM : Memref sig .tc .vmem S2x256x512 .bf16 := Memref.whole cc0_scratch3
abbrev aaM : Memref sig .tc .vmem S2x256x512 .bf16 := Memref.whole cc0_scratch4
abbrev abM : Memref sig .tc .vmem S2x256x512 .bf16 := Memref.whole cc0_scratch5
abbrev gaM : Memref sig .tc .vmem S4x256x512 .bf16 := Memref.whole cc0_scratch6
abbrev gbM : Memref sig .tc .vmem S4x256x512 .bf16 := Memref.whole cc0_scratch7
abbrev outM : Memref sig .tc .vmem S4x256x1024 .bf16 := Memref.whole cc0_stg5_0

/-- One plane of a buffer of four, of a buffer of two, and two planes of a buffer of four. -/
abbrev pl4 (M : Memref sig .tc .vmem S4x256x512 .bf16) (b : ℕ) (h : b + 1 ≤ 4) : Memref sig .tc .vmem S256x512 .bf16 :=
  (M.slice (sl 4 b 1 h) (fun _ => rfl)).squeeze S256x512 squeezes_S1x256x512_S256x512
abbrev pl2 (M : Memref sig .tc .vmem S2x256x512 .bf16) (b : ℕ) (h : b + 1 ≤ 2) : Memref sig .tc .vmem S256x512 .bf16 :=
  (M.slice (sl 2 b 1 h) (fun _ => rfl)).squeeze S256x512 squeezes_S1x256x512_S256x512
abbrev duo (M : Memref sig .tc .vmem S4x256x512 .bf16) (b : ℕ) (h : b + 2 ≤ 4) : Memref sig .tc .vmem S2x256x512 .bf16 :=
  M.slice (sl 4 b 2 h) (fun _ => rfl)

/-- What copy `j` credits. -/
def amt (j : Fin 10) : ℕ := if j.val < 8 then (pl4 paM 0 (by decide)).view.dmaCredit else (duo gaM 0 (by decide)).view.dmaCredit

theorem amt_pos (j : Fin 10) : 0 < amt j := by
  unfold amt; split
  · exact View.dmaCredit_pos _ (by decide)
  · exact View.dmaCredit_pos _ (by decide)

end Cert.KernelIdeal.Run

end
-- ==== Proof.KernelIdeal.Contents.lean ====
/-
What every buffer of the exchange holds, as functions of the devices' inputs.
-/
module

public import proofs.«01_k».proof.Proof.KernelIdeal.Tables

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## One device's partial projection -/

section Local

variable (x : Vec F S4x256x1024 .bf16) (wq wo wk wv : Vec F S1024x1024 .bf16)

/-- The first batch's heads' outputs, and the values the later batches are computed from, by the kernel's own names. -/
def h111 : FVec F S8x256x128 .f32 := k0_pay47 (k0_pay37 wv x) (k0_pay38 wq x) (k0_pay39 wk x) (k0_pay40 wk x) (k0_pay41 wk x) (k0_pay42 wk x) (k0_pay43 wk x) (k0_pay44 wk x) (k0_pay45 wk x) (k0_pay46 wk x)
def h114 : FVec F S256x128 .bf16 := k0_pay48 (k0_pay37 wv x) (k0_pay38 wq x) (k0_pay39 wk x) (k0_pay40 wk x) (k0_pay41 wk x) (k0_pay42 wk x) (k0_pay43 wk x) (k0_pay44 wk x) (k0_pay45 wk x) (k0_pay46 wk x)
def h117 : FVec F S256x128 .bf16 := k0_pay49 (k0_pay37 wv x) (k0_pay38 wq x) (k0_pay39 wk x) (k0_pay40 wk x) (k0_pay41 wk x) (k0_pay42 wk x) (k0_pay43 wk x) (k0_pay44 wk x) (k0_pay45 wk x) (k0_pay46 wk x)
def h120 : FVec F S256x128 .bf16 := k0_pay50 (k0_pay37 wv x) (k0_pay38 wq x) (k0_pay39 wk x) (k0_pay40 wk x) (k0_pay41 wk x) (k0_pay42 wk x) (k0_pay43 wk x) (k0_pay44 wk x) (k0_pay45 wk x) (k0_pay46 wk x)
def h123 : FVec F S256x128 .bf16 := k0_pay51 (k0_pay37 wv x) (k0_pay38 wq x) (k0_pay39 wk x) (k0_pay40 wk x) (k0_pay41 wk x) (k0_pay42 wk x) (k0_pay43 wk x) (k0_pay44 wk x) (k0_pay45 wk x) (k0_pay46 wk x)
def h126 : FVec F S256x128 .bf16 := k0_pay52 (k0_pay37 wv x) (k0_pay38 wq x) (k0_pay39 wk x) (k0_pay40 wk x) (k0_pay41 wk x) (k0_pay42 wk x) (k0_pay43 wk x) (k0_pay44 wk x) (k0_pay45 wk x) (k0_pay46 wk x)
def h129 : FVec F S256x128 .bf16 := k0_pay53 (k0_pay37 wv x) (k0_pay38 wq x) (k0_pay39 wk x) (k0_pay40 wk x) (k0_pay41 wk x) (k0_pay42 wk x) (k0_pay43 wk x) (k0_pay44 wk x) (k0_pay45 wk x) (k0_pay46 wk x)
def h132 : FVec F S256x128 .bf16 := k0_pay54 (k0_pay37 wv x) (k0_pay38 wq x) (k0_pay39 wk x) (k0_pay40 wk x) (k0_pay41 wk x) (k0_pay42 wk x) (k0_pay43 wk x) (k0_pay44 wk x) (k0_pay45 wk x) (k0_pay46 wk x)
def h173 : FVec F S8x256x128 .bf16 := k0_pay58 (k0_pay35 wq x)
def h221 : FVec F S8x256x128 .f32 := k0_pay61 (k0_pay36 wk x) (k0_pay37 wv x) (k0_pay58 (k0_pay35 wq x)) (k0_pay59 (k0_pay36 wk x)) (k0_pay60 (k0_pay36 wk x))
def h224 : FVec F S256x128 .bf16 := k0_pay62 (k0_pay36 wk x) (k0_pay37 wv x) (k0_pay58 (k0_pay35 wq x)) (k0_pay59 (k0_pay36 wk x)) (k0_pay60 (k0_pay36 wk x))
def h227 : FVec F S256x128 .bf16 := k0_pay63 (k0_pay36 wk x) (k0_pay37 wv x) (k0_pay58 (k0_pay35 wq x)) (k0_pay59 (k0_pay36 wk x)) (k0_pay60 (k0_pay36 wk x))
def h230 : FVec F S256x128 .bf16 := k0_pay64 (k0_pay36 wk x) (k0_pay37 wv x) (k0_pay58 (k0_pay35 wq x)) (k0_pay59 (k0_pay36 wk x)) (k0_pay60 (k0_pay36 wk x))
def h317 : FVec F S8x256x128 .bf16 := k0_pay75 (k0_pay37 wv x)
def h327 : FVec F S8x256x1 .f32 := k0_pay77 (k0_pay35 wq x) (k0_pay36 wk x) (k0_pay68 (k0_pay35 wq x)) (k0_pay69 (k0_pay35 wq x)) (k0_pay70 (k0_pay35 wq x)) (k0_pay71 (k0_pay35 wq x)) (k0_pay72 (k0_pay35 wq x)) (k0_pay73 (k0_pay35 wq x)) (k0_pay74 (k0_pay35 wq x))
def h328 : FVec F S8x256x256 .bf16 := k0_pay78 (k0_pay35 wq x) (k0_pay36 wk x) (k0_pay68 (k0_pay35 wq x)) (k0_pay69 (k0_pay35 wq x)) (k0_pay70 (k0_pay35 wq x)) (k0_pay71 (k0_pay35 wq x)) (k0_pay72 (k0_pay35 wq x)) (k0_pay73 (k0_pay35 wq x)) (k0_pay74 (k0_pay35 wq x))

/-- What the kernel stores of batch `b`, left half. -/
def partA : ℕ → FVec F S1x256x512 .bf16
  | 0 => k0_pay56 (k0_pay33 wo) (h111 x wq wk wv) (h114 x wq wk wv) (h117 x wq wk wv) (h120 x wq wk wv) (h123 x wq wk wv) (h126 x wq wk wv) (h129 x wq wk wv) (h132 x wq wk wv)
  | 1 => k0_pay66 (k0_pay33 wo) (h221 x wq wk wv) (h224 x wq wk wv) (h227 x wq wk wv) (h230 x wq wk wv)
  | 2 => k0_pay80 (k0_pay33 wo) (h317 x wv) (h327 x wq wk) (h328 x wq wk) (constant S8x256x128 .f32 0x00000000#32)
  | _ => k0_pay86 (k0_pay33 wo) (k0_pay82 (k0_pay37 wv x)) (k0_pay83 (k0_pay35 wq x) (k0_pay36 wk x)) (k0_pay84 (F := F))

/-- The same, right half. -/
def partB : ℕ → FVec F S1x256x512 .bf16
  | 0 => k0_pay57 (k0_pay33 wo) (h111 x wq wk wv) (h114 x wq wk wv) (h117 x wq wk wv) (h120 x wq wk wv) (h123 x wq wk wv) (h126 x wq wk wv) (h129 x wq wk wv) (h132 x wq wk wv)
  | 1 => k0_pay67 (k0_pay33 wo) (h221 x wq wk wv) (h224 x wq wk wv) (h227 x wq wk wv) (h230 x wq wk wv)
  | 2 => k0_pay81 (k0_pay33 wo) (h317 x wv) (h327 x wq wk) (h328 x wq wk) (constant S8x256x128 .f32 0x00000000#32)
  | _ => k0_pay87 (k0_pay33 wo) (k0_pay82 (k0_pay37 wv x)) (k0_pay83 (k0_pay35 wq x) (k0_pay36 wk x)) (k0_pay84 (F := F))

end Local

/-- The index of row `r`, column `k` in one plane. -/
def pix (r k : ℕ) : (Sh 1).Idx := fun a => ⟨(![0, r % 256, k % 512] : Fin 3 → ℕ) a, by
  fin_cases a
  · exact Nat.one_pos
  · exact Nat.mod_lt _ (by decide)
  · exact Nat.mod_lt _ (by decide)⟩

/-- One plane, read by row and column. -/
def row (w : FVec F S1x256x512 .bf16) (r k : ℕ) : Elt F .bf16 := w (pix r k)

omit [FloatOps F] in
theorem row_apply (w : FVec F S1x256x512 .bf16) (j : (Sh 1).Idx) : row w (j 1).val (j 2).val = w j := by
  unfold row; congr 1; funext a; apply Fin.ext
  have h0 : (j 0).val < 1 := (j 0).isLt
  have h1 : (j 1).val < 256 := (j 1).isLt
  have h2 : (j 2).val < 512 := (j 2).isLt
  fin_cases a
  · show 0 = (j 0).val; omega
  · exact Nat.mod_eq_of_lt h1
  · exact Nat.mod_eq_of_lt h2

/-! ## The inputs and the buffers' contents -/

variable (m : (ℓ : Loc nD τ sig) → Buf (Elt F) ℓ)

def xin (c : Dev nD) : Vec F S4x256x1024 .bf16 := (win0_0.blk (0 : Fin 1)).view.read (Elt F) (m ((c : Thread nD τ).loc main_arg0))
def wqin (c : Dev nD) : Vec F S1024x1024 .bf16 := (win0_1.blk (0 : Fin 1)).view.read (Elt F) (m ((c : Thread nD τ).loc main_arg1))
def woin (c : Dev nD) : Vec F S1024x1024 .bf16 := (win0_2.blk (0 : Fin 1)).view.read (Elt F) (m ((c : Thread nD τ).loc main_arg2))
def wkin (c : Dev nD) : Vec F S1024x1024 .bf16 := (win0_3.blk (0 : Fin 1)).view.read (Elt F) (m ((c : Thread nD τ).loc main_arg3))
def wvin (c : Dev nD) : Vec F S1024x1024 .bf16 := (win0_4.blk (0 : Fin 1)).view.read (Elt F) (m ((c : Thread nD τ).loc main_arg4))

/-- Device `c`'s partial projections, batch by batch. -/
def PA (c : Dev nD) (b : ℕ) : ℕ → ℕ → Elt F .bf16 := row (partA (xin m c) (wqin m c) (woin m c) (wkin m c) (wvin m c) b)
def PB (c : Dev nD) (b : ℕ) : ℕ → ℕ → Elt F .bf16 := row (partB (xin m c) (wqin m c) (woin m c) (wkin m c) (wvin m c) b)
/-- What arrives first: the first partner's partials of the two batches kept. -/
def RA (c : Dev nD) (s : ℕ) : ℕ → ℕ → Elt F .bf16 := PA m (p1 c) (h0 c + s)
def RB (c : Dev nD) (s : ℕ) : ℕ → ℕ → Elt F .bf16 := PB m (p2 c) (bh0 c + s)
/-- The sums of two devices, of the two batches kept. -/
def AA (c : Dev nD) (s r k : ℕ) : Elt F .bf16 := FloatOps.addf (PA m c (h0 c + s) r k) (RA m c s r k)
def AB (c : Dev nD) (s r k : ℕ) : Elt F .bf16 := FloatOps.addf (PB m c (bh0 c + s) r k) (RB m c s r k)
/-- What arrives next: the second partner's sum of the batch finished here. -/
def GA (c : Dev nD) (b : ℕ) : ℕ → ℕ → Elt F .bf16 := AA m (p2 c) (b - h0 c)
def GB (c : Dev nD) (b : ℕ) : ℕ → ℕ → Elt F .bf16 := AB m (p1 c) (b - bh0 c)
/-- The device batch `b` is finished on. -/
def ownA (b : ℕ) : Dev nD := match b with | 0 => (0 : Fin 4) | 1 => (3 : Fin 4) | 2 => (1 : Fin 4) | _ => (2 : Fin 4)
def ownB (b : ℕ) : Dev nD := match b with | 0 => (0 : Fin 4) | 1 => (1 : Fin 4) | 2 => (2 : Fin 4) | _ => (3 : Fin 4)
/-- The sums of all four devices. -/
def FA (b r k : ℕ) : Elt F .bf16 := FloatOps.addf (GA m (ownA b) b r k) (AA m (ownA b) (b - h0 (ownA b)) r k)
def FB (b r k : ℕ) : Elt F .bf16 := FloatOps.addf (GB m (ownB b) b r k) (AB m (ownB b) (b - bh0 (ownB b)) r k)

/-- The result: the left half of the columns from `FA`, the right half from `FB`. -/
def OUT : S4x256x1024.Idx → Elt F .bf16 := fun i =>
  if (i 2).val < 512 then FA m (i 0).val (i 1).val (i 2).val else FB m (i 0).val (i 1).val ((i 2).val - 512)

theorem p2_p2 (c : Dev nD) : p2 (p2 c) = c := by revert c; decide
theorem p1_p1 (c : Dev nD) : p1 (p1 c) = c := by revert c; decide
theorem h0_p1 (c : Dev nD) : h0 (p1 c) = hb0 c := by revert c; decide
theorem bh0_p2 (c : Dev nD) : bh0 (p2 c) = bhb0 c := by revert c; decide
theorem h0_p2 (c : Dev nD) : h0 (p2 c) = h0 c := by revert c; decide
theorem bh0_p1 (c : Dev nD) : bh0 (p1 c) = bh0 c := by revert c; decide
theorem hb0_p1 (c : Dev nD) : hb0 (p1 c) = h0 c := by revert c; decide
theorem bhb0_p2 (c : Dev nD) : bhb0 (p2 c) = bh0 c := by revert c; decide
theorem kb_p2 (c : Dev nD) : kb (p2 c) = sb c := by revert c; decide
theorem sb_p2 (c : Dev nD) : sb (p2 c) = kb c := by revert c; decide
theorem bkb_p1 (c : Dev nD) : bkb (p1 c) = bsb c := by revert c; decide
theorem bsb_p1 (c : Dev nD) : bsb (p1 c) = bkb c := by revert c; decide
theorem sb_sub (c : Dev nD) : sb c - h0 c = si c := by revert c; decide
theorem bsb_sub (c : Dev nD) : bsb c - bh0 c = bsi c := by revert c; decide
theorem kb_sub (c : Dev nD) : kb c - h0 c = ki c := by revert c; decide
theorem bkb_sub (c : Dev nD) : bkb c - bh0 c = bki c := by revert c; decide
theorem ownA_kb (c : Dev nD) : ownA (kb c) = c := by revert c; decide
theorem ownB_bkb (c : Dev nD) : ownB (bkb c) = c := by revert c; decide

/-- The values of copies 0, 1, 4, 5 as the receiver names them, -/
theorem RA_p1 (c : Dev nD) (s : ℕ) : RA m (p1 c) s = PA m c (hb0 c + s) := by unfold RA; rw [p1_p1, h0_p1]
theorem RB_p2 (c : Dev nD) (s : ℕ) : RB m (p2 c) s = PB m c (bhb0 c + s) := by unfold RB; rw [p2_p2, bh0_p2]
/-- of copies 2 and 6, -/
theorem GA_p2 (c : Dev nD) : GA m (p2 c) (sb c) = AA m c (si c) := by unfold GA; rw [p2_p2, h0_p2, sb_sub]
theorem GB_p1 (c : Dev nD) : GB m (p1 c) (bsb c) = AB m c (bsi c) := by unfold GB; rw [p1_p1, bh0_p1, bsb_sub]
/-- and the batch finished here. -/
theorem FA_kb (c : Dev nD) : FA m (kb c) = fun r k => FloatOps.addf (GA m c (kb c) r k) (AA m c (ki c) r k) := by
  unfold FA; rw [ownA_kb, kb_sub]
theorem FB_bkb (c : Dev nD) : FB m (bkb c) = fun r k => FloatOps.addf (GB m c (bkb c) r k) (AB m c (bki c) r k) := by
  unfold FB; rw [ownB_bkb, bkb_sub]

end Cert.KernelIdeal.Run

end
-- ==== Proof.KernelIdeal.Schedule.lean ====
/-
The schedule of the exchange: the duties of every cell, what each pays, and what a device owes.
-/
module

public import proofs.«01_k».proof.Proof.KernelIdeal.Contents

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Runs of planes of a buffer, at a share -/

/-- Planes of values. -/
abbrev Pl (F : FTy → Type) : Type := ℕ → ℕ → ℕ → Elt F .bf16

def paP (c : Dev nD) (q : PosShare TreeShare) (b n : ℕ) (X : Pl F) : sProp 𝕄 := ((c : Thread nD τ).loc cc0_scratch0) ↦[slabs 4 b n]{q} stack 4 X
def pbP (c : Dev nD) (q : PosShare TreeShare) (b n : ℕ) (X : Pl F) : sProp 𝕄 := ((c : Thread nD τ).loc cc0_scratch1) ↦[slabs 4 b n]{q} stack 4 X
def raP (c : Dev nD) (q : PosShare TreeShare) (b n : ℕ) (X : Pl F) : sProp 𝕄 := ((c : Thread nD τ).loc cc0_scratch2) ↦[slabs 2 b n]{q} stack 2 X
def rbP (c : Dev nD) (q : PosShare TreeShare) (b n : ℕ) (X : Pl F) : sProp 𝕄 := ((c : Thread nD τ).loc cc0_scratch3) ↦[slabs 2 b n]{q} stack 2 X
def aaP (c : Dev nD) (q : PosShare TreeShare) (b n : ℕ) (X : Pl F) : sProp 𝕄 := ((c : Thread nD τ).loc cc0_scratch4) ↦[slabs 2 b n]{q} stack 2 X
def abP (c : Dev nD) (q : PosShare TreeShare) (b n : ℕ) (X : Pl F) : sProp 𝕄 := ((c : Thread nD τ).loc cc0_scratch5) ↦[slabs 2 b n]{q} stack 2 X
def gaP (c : Dev nD) (q : PosShare TreeShare) (b n : ℕ) (X : Pl F) : sProp 𝕄 := ((c : Thread nD τ).loc cc0_scratch6) ↦[slabs 4 b n]{q} stack 4 X
def gbP (c : Dev nD) (q : PosShare TreeShare) (b n : ℕ) (X : Pl F) : sProp 𝕄 := ((c : Thread nD τ).loc cc0_scratch7) ↦[slabs 4 b n]{q} stack 4 X

/-- Those planes at some contents. -/
def raE (c : Dev nD) (b n : ℕ) : sProp 𝕄 := iprop(∃ f, ((c : Thread nD τ).loc cc0_scratch2) ↦[slabs 2 b n]{fullShare} f)
def rbE (c : Dev nD) (b n : ℕ) : sProp 𝕄 := iprop(∃ f, ((c : Thread nD τ).loc cc0_scratch3) ↦[slabs 2 b n]{fullShare} f)
def gaE (c : Dev nD) (b n : ℕ) : sProp 𝕄 := iprop(∃ f, ((c : Thread nD τ).loc cc0_scratch6) ↦[slabs 4 b n]{fullShare} f)
def gbE (c : Dev nD) (b n : ℕ) : sProp 𝕄 := iprop(∃ f, ((c : Thread nD τ).loc cc0_scratch7) ↦[slabs 4 b n]{fullShare} f)

variable (m : (ℓ : Loc nD τ sig) → Buf (Elt F) ℓ)

/-- Where copy `j` lands on device `c`. -/
def land (c : Dev nD) : Fin 10 → sProp 𝕄
  | 0 => raE c 0 1 | 1 => raE c 1 1 | 2 => gaE c (kb c) 1 | 3 => gaE c (sb c) 1
  | 4 => rbE c 0 1 | 5 => rbE c 1 1 | 6 => gbE c (bkb c) 1 | 7 => gbE c (bsb c) 1
  | 8 => gaE c (hb0 c) 2 | 9 => gbE c (bhb0 c) 2

/-- What device `c`'s copy `j` is made from, returned when it has been read. -/
def sndPay (c : Dev nD) : Fin 10 → sProp 𝕄
  | 0 => paP c fullShare (hb0 c) 1 (PA m c) | 1 => paP c fullShare (hb0 c + 1) 1 (PA m c)
  | 2 => aaP c fullShare (si c) 1 (AA m c) | 3 => gaP c fullShare.left (kb c) 1 (FA m)
  | 4 => pbP c fullShare (bhb0 c) 1 (PB m c) | 5 => pbP c fullShare (bhb0 c + 1) 1 (PB m c)
  | 6 => abP c fullShare (bsi c) 1 (AB m c) | 7 => gbP c fullShare.left (bkb c) 1 (FB m)
  | 8 => gaP c fullShare.left (h0 c) 2 (FA m) | 9 => gbP c fullShare.left (bh0 c) 2 (FB m)

/-- What has landed when copy `j` has arrived on device `c`. -/
def rcvPay (c : Dev nD) : Fin 10 → sProp 𝕄
  | 0 => raP c fullShare 0 1 (RA m c) | 1 => raP c fullShare 1 1 (RA m c)
  | 2 => gaP c fullShare (kb c) 1 (GA m c) | 3 => gaP c fullShare (sb c) 1 (FA m)
  | 4 => rbP c fullShare 0 1 (RB m c) | 5 => rbP c fullShare 1 1 (RB m c)
  | 6 => gbP c fullShare (bkb c) 1 (GB m c) | 7 => gbP c fullShare (bsb c) 1 (FB m)
  | 8 => gaP c fullShare (hb0 c) 2 (FA m) | 9 => gbP c fullShare (bhb0 c) 2 (FB m)

/-- The copies device `c` sends to `n`. -/
def toDev (c n : Dev nD) : Finset (Fin 10) := Finset.univ.filter fun j => peer j c = n

/-- What `n`'s signal hands `c`: where `c`'s copies to `n` land. -/
def barPay (c n : Dev nD) : sProp 𝕄 := bigSep (toDev c n) fun j => land (F := F) n j

/-- Who pays duty `d` of `c`'s barrier cell. -/
def payer (c : Dev nD) (d : Bool) : Dev nD := if d then pl c else pr c

omit [FloatOps F] in
instance land_storable (c : Dev nD) (j : Fin 10) : BI.Storable (upEmb : UEmb _ 𝕄) (land (F := F) c j) := by
  unfold land raE rbE gaE gbE; split <;> infer_instance
instance sndPay_storable (c : Dev nD) (j : Fin 10) : BI.Storable (upEmb : UEmb _ 𝕄) (sndPay m c j) := by
  unfold sndPay paP pbP aaP abP gaP gbP; split <;> infer_instance
instance rcvPay_storable (c : Dev nD) (j : Fin 10) : BI.Storable (upEmb : UEmb _ 𝕄) (rcvPay m c j) := by
  unfold rcvPay raP rbP gaP gbP; split <;> infer_instance
omit [FloatOps F] in
instance barPay_storable (c n : Dev nD) : BI.Storable (upEmb : UEmb _ 𝕄) (barPay (F := F) c n) := by unfold barPay; infer_instance

/-- One round. A barrier cell has two duties of one unit, paid by its two neighbours; a send or receive cell one duty, of
    its copy's credit. -/
def exRd : Rounds.Schedule (GSem nD τ sig) Bool 𝕄 where
  duties g r := if r = 0 ∧ g.1.2 = .tc then (match knd g.2 with | some none => Finset.univ | some (some _) => {false} | none => ∅) else ∅
  unitless _ := False
  amount g _ _ := match knd g.2 with | some (some (_, j)) => amt j | _ => 1
  payload g _ d := match knd g.2 with
    | some none => barPay g.1.1 (payer g.1.1 d)
    | some (some (false, j)) => sndPay m g.1.1 j
    | some (some (true, j)) => rcvPay m g.1.1 j
    | none => iprop(emp)
  amount_pos g _ _ _ := by
    split
    · exact amt_pos _
    · exact Nat.one_pos

instance exRd_payload_storable (g : GSem nD τ sig) (r : ℕ) (d : Bool) :
    BI.Storable (upEmb : UEmb _ 𝕄) ((exRd (F := F) m).payload g r d) := by
  show BI.Storable upEmb (match knd g.2 with
    | some none => barPay g.1.1 (payer g.1.1 d)
    | some (some (false, j)) => sndPay m g.1.1 j
    | some (some (true, j)) => rcvPay m g.1.1 j
    | none => iprop(emp))
  split <;> infer_instance

section Sched
variable (c : Dev nD) (j : Fin 10)

theorem duties_bar : (exRd (F := F) m).duties (barCell c) 0 = Finset.univ := by dsimp only [exRd]; rw [if_pos ⟨rfl, rfl⟩, knd_csem]
theorem duties_xfer (b : Bool) : (exRd (F := F) m).duties (kcell (c, some (b, j))) 0 = {false} := by
  dsimp only [exRd]; rw [if_pos ⟨rfl, rfl⟩, knd_csem]
theorem duties_later (g : GSem nD τ sig) : ∀ r, 1 ≤ r → (exRd (F := F) m).duties g r = ∅ :=
  fun r hr => by dsimp only [exRd]; rw [if_neg fun h => by omega]

theorem amount_bar (d : Bool) : (exRd (F := F) m).amount (barCell c) 0 d = 1 := by dsimp only [exRd]; rw [knd_csem]
theorem amount_xfer (b d : Bool) : (exRd (F := F) m).amount (kcell (c, some (b, j))) 0 d = amt j := by dsimp only [exRd]; rw [knd_csem]

theorem expect_bar : (exRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_xfer (b : Bool) : (exRd (F := F) m).expect (kcell (c, some (b, j))) 0 = amt j := by
  unfold Schedule.expect Schedule.amountOf; rw [duties_xfer, Finset.sum_singleton, amount_xfer]

theorem payload_bar (d : Bool) : (exRd (F := F) m).payload (barCell c) 0 d = barPay c (payer c d) := by dsimp only [exRd]; rw [knd_csem]
theorem payload_snd (d : Bool) : (exRd (F := F) m).payload (sendCell c j) 0 d = sndPay m c j := by dsimp only [exRd]; rw [knd_csem]
theorem payload_rcv (d : Bool) : (exRd (F := F) m).payload (recvCell c j) 0 d = rcvPay m c j := by dsimp only [exRd]; rw [knd_csem]

/-- The rest of a cell's round, no duty taken. -/
theorem rest_bar : bigSep ((exRd (F := F) m).duties (barCell c) 0 \ ∅) (fun d => (exRd (F := F) m).payload (barCell c) 0 d) = iprop(barPay c (pr c) ∗ barPay c (pl c)) := by
  rw [Finset.sdiff_empty, duties_bar, bigSep_univ_eq_bigSepL [false, true] (by decide) (by decide), bigSepL_cons_cons, bigSepL_singleton,
    payload_bar, payload_bar]
  rfl
theorem rest_snd : bigSep ((exRd (F := F) m).duties (sendCell c j) 0 \ ∅) (fun d => (exRd (F := F) m).payload (sendCell c j) 0 d) = sndPay m c j := by
  rw [Finset.sdiff_empty, duties_xfer, bigSep_singleton, payload_snd]
theorem rest_rcv : bigSep ((exRd (F := F) m).duties (recvCell c j) 0 \ ∅) (fun d => (exRd (F := F) m).payload (recvCell c j) 0 d) = rcvPay m c j := by
  rw [Finset.sdiff_empty, duties_xfer, bigSep_singleton, payload_rcv]

/-- Where a device's ten copies land, sorted by the neighbour they go to. -/
theorem barPays (Φ : Dev nD → Fin 10 → sProp 𝕄) :
    iprop((bigSep (toDev c (pr c)) fun j => Φ (pr c) j) ∗ bigSep (toDev c (pl c)) fun j => Φ (pl c) j)
      = bigSep Finset.univ fun j => Φ (peer j c) j := by
  have hu : (Finset.univ : Finset (Fin 10)) = toDev c (pr c) ∪ toDev c (pl c) := by
    ext j; simp only [toDev, Finset.mem_union, Finset.mem_filter, Finset.mem_univ, true_and, true_iff]
    rcases peer_cases j c with h | h
    · exact Or.inr h
    · exact Or.inl h
  have hd : Disjoint (toDev c (pr c)) (toDev c (pl c)) := by
    rw [Finset.disjoint_left]; intro j h1 h2
    exact pl_ne_pr c ((Finset.mem_filter.mp h2).2.symm.trans (Finset.mem_filter.mp h1).2)
  rw [hu, bigSep_union hd,
    bigSep_congr (s := toDev c (pr c)) (fun j hj => by rw [← (Finset.mem_filter.mp hj).2]),
    bigSep_congr (s := toDev c (pl c)) (fun j hj => by rw [← (Finset.mem_filter.mp hj).2])]
  rfl

end Sched

/-! ## What a device owes; the levels -/

/-- The credits device `c` still owes its partners' receive cells, of the copies in `S`. -/
def owe (c : Dev nD) (S : Finset (Fin 10)) : CellTallies nD τ sig Unit := ∑ j ∈ S, tallyAt (recvCell (peer j c) j) () (amt j)

theorem owe_insert (c : Dev nD) {S : Finset (Fin 10)} {j : Fin 10} (h : j ∈ S) :
    owe c S = owe c (S.erase j) + tallyAt (recvCell (peer j c) j) () (amt j) :=
  (Finset.sum_erase_add S (fun j => tallyAt (recvCell (peer j c) j) () (amt j)) h).symm

/-- At launch a device owes all ten and a unit to each neighbour's barrier cell. -/
def O₁ (c : Dev nD) : CellTallies nD τ sig Unit := owe c Finset.univ + tallyAt (barCell (pr c)) () 1
def O₀ (c : Dev nD) : CellTallies nD τ sig Unit := O₁ c + tallyAt (barCell (pl c)) () 1

/-- Staging and send cells at 0, barrier cells at 1, a receive cell by the step its copy belongs to. -/
def lvl : Option Knd → ℕ
  | some none => 1
  | some (some (true, j)) => if j.val = 8 ∨ j.val = 9 then 5 else if j.val % 4 = 2 then 3 else if j.val % 4 = 3 then 4 else 2
  | _ => 0

def L (g : GSem nD τ sig) : Finset Unit := if g.1.2 = .tc then {()} else ∅
def lv (g : GSem nD τ sig) (_ : Unit) : ℕ := lvl (knd g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × Knd) : lv (kcell ck) () = lvl (some ck.2) := by unfold lv; rw [knd_csem]

theorem owe_pos {c : Dev nD} {S : Finset (Fin 10)} {g : GSem nD τ sig} {u : Unit} (h : 0 < owe c S g u) :
    ∃ j ∈ S, g = recvCell (peer j c) j := by
  unfold owe at h
  rw [Finset.sum_apply, Finsupp.finset_sum_apply] at h
  obtain ⟨j, hj, hne⟩ := Finset.exists_ne_zero_of_sum_ne_zero (Nat.ne_of_gt h)
  refine ⟨j, hj, ?_⟩
  rw [tallyAt_apply] at hne
  by_contra hn
  exact hne (if_neg fun h' => hn h'.1)

theorem O₀_pos {c : Dev nD} {g : GSem nD τ sig} {u : Unit} (h : 0 < O₀ c g u) :
    (∃ j, g = recvCell (peer j c) j) ∨ g = barCell (pr c) ∨ g = barCell (pl c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨j, -, hj⟩ := owe_pos (c := c) (S := Finset.univ) (g := g) (u := u) (by omega)
  exact hn.1 ⟨j, hj⟩

omit [FloatOps F] in
/-- A cell may be waited on while every copy still owed is of a later step. -/
theorem mayWait_owe (c : Dev nD) (sm : SemLoc sig) (S : Finset (Fin 10)) (hS : ∀ j ∈ S, lvl (knd sm) < lvl (some (some (true, j)))) :
    (levAts L lv : sProp 𝕄) ⊢ MayWait (c : Thread nD τ) sm () (owe c S) :=
  MayOwe.of_cut (L := L) (lev := lv) (lvl (knd sm)) (fun p hp => by rw [Finset.mem_singleton.mp hp, L_tc]; exact Finset.mem_singleton_self _)
    (fun g u hg => by
      obtain ⟨j, -, rfl⟩ := owe_pos hg
      exact Finset.mem_singleton_self _)
    (fun p hp => by rw [Finset.mem_singleton.mp hp]; exact Nat.le_refl _)
    (fun g u hg => by
      obtain ⟨j, hj, rfl⟩ := owe_pos hg
      show _ < lv _ ()
      rw [lv_kcell]; exact hS j hj)

omit [FloatOps F] in
/-- A staging cell may be waited on before and after the exchange. -/
theorem mayWait_stage (c : Dev nD) (q : DmaSem sig) (hq : knd (SemLoc.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; dsimp only [lv]; rw [hq]; exact Nat.le_refl _)
      (fun g u hg => by
        have hl : ∀ j : Fin 10, 0 < lvl (some (some (true, j))) := by decide
        rcases O₀_pos hg with ⟨j, rfl⟩ | rfl | rfl
        · show _ < lv _ (); rw [lv_kcell]; exact hl j
        · show _ < lv _ (); rw [lv_kcell]; exact Nat.one_pos
        · show _ < lv _ (); rw [lv_kcell]; exact Nat.one_pos)
  · rw [MayWait_zero]; iintro -; iempintro

end Cert.KernelIdeal.Run

end
-- ==== Proof.KernelIdeal.Program.lean ====
/-
The kernel's body as one program in the device: the four batches, each stored and sent on where it is not kept, and
then the exchange, in which only the buffers' planes depend on the device.
-/
module

public import proofs.«01_k».proof.Proof.KernelIdeal.Contents
import Mathlib.Tactic.IntervalCases

@[expose] public section

noncomputable section

namespace Cert.KernelIdeal.Run

open Cert.KernelIdeal Cert.KernelIdeal.Gen Cert.Planes

open Idealize.ShloMosaic
open Idealize.ShloMosaic.TcCoe
open Idealize.SL.Sem

variable {F : FTy → Type} [FloatOps F]

/-! ## Rectangles, and that accesses through them are whole words -/

theorem packed4 {b : ℕ} (h : b + 1 ≤ 4) : (sl 4 b 1 h).PackedRows (EltTy.packing .bf16) := by
  have : b < 4 := h
  interval_cases b <;> decide +revert
theorem words4 {b : ℕ} (h : b + 1 ≤ 4) : (sl 4 b 1 h).WholeWords (EltTy.packing .bf16) := by
  have : b < 4 := h
  interval_cases b <;> decide +revert
theorem words2 {b : ℕ} (h : b + 1 ≤ 2) : (sl 2 b 1 h).WholeWords (EltTy.packing .bf16) := by
  have : b < 2 := h
  interval_cases b <;> decide +revert
theorem wordsd {b : ℕ} (h : b + 2 ≤ 4) : (sl 4 b 2 h).WholeWords (EltTy.packing .bf16) := by
  have : b < 3 := by omega
  interval_cases b <;> decide +revert
theorem packed2 : (sl 2 0 2 (Nat.le_refl 2)).PackedRows (EltTy.packing .bf16) := by decide

theorem so_inb {b n o : ℕ} (h : b + n ≤ 4) (ho : o + 512 ≤ 1024) :
    ∀ a, (![b, 0, o] : Fin 3 → ℕ) a + (Sh n).size a ≤ S4x256x1024.size a := by
  intro a
  fin_cases a
  · exact h
  · exact Nat.le_of_eq (Nat.zero_add _)
  · exact ho

/-- `n` planes of the result from batch `b` on, the half of the columns from column `o` on. -/
abbrev so (b n o : ℕ) (h : b + n ≤ 4) (ho : o + 512 ≤ 1024) : Rect S4x256x1024 := Rect.unit (s := S4x256x1024) ![b, 0, o] (Sh n).size (so_inb h ho)

theorem packedo {b n o : ℕ} (h : b + n ≤ 4) (ho : o + 512 ≤ 1024) (hn : n = 1 ∨ n = 2) (hoo : o = 0 ∨ o = 512) :
    (so b n o h ho).PackedRows (EltTy.packing .bf16) := by
  have : b < 4 := by omega
  rcases hoo with rfl | rfl <;> rcases hn with rfl | rfl <;> interval_cases b <;> first | decide +revert | (exfalso; omega)

theorem ho0 : 0 + 512 ≤ 1024 := by decide
theorem ho5 : 512 + 512 ≤ 1024 := by decide

abbrev paW : (paM : Memref sig .tc .vmem S4x256x512 .bf16).IsWhole := Memref.isWhole_whole _
abbrev pbW : (pbM : Memref sig .tc .vmem S4x256x512 .bf16).IsWhole := Memref.isWhole_whole _
abbrev raW : (raM : Memref sig .tc .vmem S2x256x512 .bf16).IsWhole := Memref.isWhole_whole _
abbrev rbW : (rbM : Memref sig .tc .vmem S2x256x512 .bf16).IsWhole := Memref.isWhole_whole _
abbrev aaW : (aaM : Memref sig .tc .vmem S2x256x512 .bf16).IsWhole := Memref.isWhole_whole _
abbrev abW : (abM : Memref sig .tc .vmem S2x256x512 .bf16).IsWhole := Memref.isWhole_whole _
abbrev gaW : (gaM : Memref sig .tc .vmem S4x256x512 .bf16).IsWhole := Memref.isWhole_whole _
abbrev gbW : (gbM : Memref sig .tc .vmem S4x256x512 .bf16).IsWhole := Memref.isWhole_whole _
abbrev outW : (outM : Memref sig .tc .vmem S4x256x1024 .bf16).IsWhole := Memref.isWhole_whole _

theorem we4 {M : Memref sig .tc .vmem S4x256x512 .bf16} (hM : M.IsWhole) {b : ℕ} (h : b + 1 ≤ 4) : (pl4 M b h).view.WordExact :=
  (hM.wordExact_slice rfl _ (words4 h)).reshape _ _
theorem we2 {M : Memref sig .tc .vmem S2x256x512 .bf16} (hM : M.IsWhole) {b : ℕ} (h : b + 1 ≤ 2) : (pl2 M b h).view.WordExact :=
  (hM.wordExact_slice rfl _ (words2 h)).reshape _ _
theorem wed {M : Memref sig .tc .vmem S4x256x512 .bf16} (hM : M.IsWhole) {b : ℕ} (h : b + 2 ≤ 4) : (duo M b h).view.WordExact :=
  hM.wordExact_slice rfl _ (wordsd h)

/-! ## Operations -/

abbrev TE (F : FTy → Type) : Type → Type _ := TpuEff nD τ sig (Elt F) Λ₀ .tc
abbrev PR (F : FTy → Type) : Type _ := Prog (TE F) PUnit

abbrev ld4 (M : Memref sig .tc .vmem S4x256x512 .bf16) (b : ℕ) (h : b + 1 ≤ 4) : TE F (Vec F S1x256x512 .bf16) :=
  .load M (sl 4 b 1 h).toLoadRect (View.loadsAt_vmem h_S1x256x512)
abbrev ldd (M : Memref sig .tc .vmem S4x256x512 .bf16) (b : ℕ) (h : b + 2 ≤ 4) : TE F (Vec F S2x256x512 .bf16) :=
  .load M (sl 4 b 2 h).toLoadRect (View.loadsAt_vmem h_S2x256x512)
abbrev ld2 (M : Memref sig .tc .vmem S2x256x512 .bf16) (b : ℕ) (h : b + 1 ≤ 2) : TE F (Vec F S1x256x512 .bf16) :=
  .load M (sl 2 b 1 h).toLoadRect (View.loadsAt_vmem h_S1x256x512)
abbrev ldw (M : Memref sig .tc .vmem S2x256x512 .bf16) : TE F (Vec F S2x256x512 .bf16) :=
  .load M (sl 2 0 2 (Nat.le_refl 2)).toLoadRect (View.loadsAt_vmem h_S2x256x512)
abbrev st4 (M : Memref sig .tc .vmem S4x256x512 .bf16) (hM : M.IsWhole) (b : ℕ) (h : b + 1 ≤ 4) (w : FVec F S1x256x512 .bf16) : TE F PUnit :=
  .store M (sl 4 b 1 h) w Finset.univ (View.stores_vmem h_S1x256x512 (hM.storeExact_slice rfl _ (packed4 h)) (fun _ => rfl)) (.inl rfl)
abbrev stw (M : Memref sig .tc .vmem S2x256x512 .bf16) (hM : M.IsWhole) (w : FVec F S2x256x512 .bf16) : TE F PUnit :=
  .store M (sl 2 0 2 (Nat.le_refl 2)) w Finset.univ (View.stores_vmem h_S2x256x512 (hM.storeExact_slice rfl _ packed2) (fun _ => rfl)) (.inl rfl)
abbrev ldo1 (b o : ℕ) (h : b + 1 ≤ 4) (ho : o + 512 ≤ 1024) : TE F (Vec F S1x256x512 .bf16) :=
  .load outM (so b 1 o h ho).toLoadRect (View.loadsAt_vmem h_S1x256x512)
abbrev ldo2 (b o : ℕ) (h : b + 2 ≤ 4) (ho : o + 512 ≤ 1024) : TE F (Vec F S2x256x512 .bf16) :=
  .load outM (so b 2 o h ho).toLoadRect (View.loadsAt_vmem h_S2x256x512)
abbrev sto1 (b o : ℕ) (h : b + 1 ≤ 4) (ho : o + 512 ≤ 1024) (hoo : o = 0 ∨ o = 512) (w : FVec F S1x256x512 .bf16) : TE F PUnit :=
  .store outM (so b 1 o h ho) w Finset.univ (View.stores_vmem h_S1x256x512 (outW.storeExact_slice rfl _ (packedo h ho (.inl rfl) hoo)) (fun _ => rfl)) (.inl rfl)
abbrev sto2 (b o : ℕ) (h : b + 2 ≤ 4) (ho : o + 512 ≤ 1024) (hoo : o = 0 ∨ o = 512) (w : FVec F S2x256x512 .bf16) : TE F PUnit :=
  .store outM (so b 2 o h ho) w Finset.univ (View.stores_vmem h_S2x256x512 (outW.storeExact_slice rfl _ (packedo h ho (.inr rfl) hoo)) (fun _ => rfl)) (.inl rfl)

/-- Copy `j` of `src` into `dst` on device `n`, and a wait for one of its two ends. -/
abbrev cp {s : Shape} (j : Fin 10) (n : Dev nD) (src dst : Memref sig .tc .vmem s .bf16) (hs : src.view.WordExact) (hd : dst.view.WordExact) : TE F PUnit :=
  .enqueueDma src (.remote (Dev.tc n : Thread nD τ) dst (.dma (sndS j))) (.dma (rcvS j)) hs hd ⟨⟨rfl, Or.inl rfl⟩, trivial⟩
abbrev wt {s : Shape} (q : DmaSem sig) (src dst : Memref sig .tc .vmem s .bf16) (hs : src.view.WordExact) (hd : dst.view.WordExact) : TE F PUnit :=
  .waitDma2 q src dst hs hd

/-! ## The program -/

/-- Both ends of a copy, the sender's first. -/
def wts {s : Shape} (j : Fin 10) (src dst : Memref sig .tc .vmem s .bf16) (hs : src.view.WordExact) (hd : dst.view.WordExact) (k : PR F) : PR F :=
  Prog.op (wt (sndS j) dst src hd hs) fun _ => Prog.op (wt (rcvS j) src dst hs hd) fun _ => k

/-- An operation done only if `p`. -/
def opIf (p : Prop) [Decidable p] (e : TE F PUnit) (k : PR F) : PR F := if p then Prog.op e fun _ => k else k

/-- Batch `b`: its two halves stored, each sent on if this device does not keep it. -/
def batP (c : Dev nD) (b s : ℕ) (hb : b + 1 ≤ 4) (hs : s + 1 ≤ 2) (j j' : Fin 10) (w w' : FVec F S1x256x512 .bf16) (k : PR F) : PR F :=
  Prog.op (ld4 paM b hb) fun _ => Prog.op (st4 paM paW b hb w) fun _ => Prog.op (ld4 pbM b hb) fun _ => Prog.op (st4 pbM pbW b hb w') fun _ =>
  opIf (hb0 c ≤ b ∧ b < hb0 c + 2) (cp j (p1 c) (pl4 paM b hb) (pl2 raM s hs) (we4 paW hb) (we2 raW hs))
    (opIf (bhb0 c ≤ b ∧ b < bhb0 c + 2) (cp j' (p2 c) (pl4 pbM b hb) (pl2 rbM s hs) (we4 pbW hb) (we2 rbW hs)) k)

theorem l01 : 0 + 1 ≤ 2 := by decide
theorem l11 : 1 + 1 ≤ 2 := by decide

/-- The partners' partials are in. -/
def exA (c : Dev nD) (k : PR F) : PR F :=
  wts 0 (pl4 paM (hb0 c) (hb0_lt0 c)) (pl2 raM 0 l01) (we4 paW _) (we2 raW _) <|
  wts 4 (pl4 pbM (bhb0 c) (bhb0_lt0 c)) (pl2 rbM 0 l01) (we4 pbW _) (we2 rbW _) <|
  wts 1 (pl4 paM (hb0 c + 1) (hb0_lt1 c)) (pl2 raM 1 l11) (we4 paW _) (we2 raW _) <|
  wts 5 (pl4 pbM (bhb0 c + 1) (bhb0_lt1 c)) (pl2 rbM 1 l11) (we4 pbW _) (we2 rbW _) k

/-- The sums of two, one of each pair sent on. -/
def exB (c : Dev nD) (k : PR F) : PR F :=
  Prog.op (ldd paM (h0 c) (h0_lt c)) fun v => Prog.op (ldw raM) fun w => Prog.op (ldw aaM) fun _ => Prog.op (stw aaM aaW (k0_pay1 v w)) fun _ =>
  Prog.op (ldd pbM (bh0 c) (bh0_lt c)) fun v => Prog.op (ldw rbM) fun w => Prog.op (ldw abM) fun _ => Prog.op (stw abM abW (k0_pay2 v w)) fun _ =>
  Prog.op (cp 2 (p2 c) (pl2 aaM (si c) (si_lt c)) (pl4 gaM (sb c) (sb_lt c)) (we2 aaW _) (we4 gaW _)) fun _ =>
  Prog.op (cp 6 (p1 c) (pl2 abM (bsi c) (bsi_lt c)) (pl4 gbM (bsb c) (bsb_lt c)) (we2 abW _) (we4 gbW _)) fun _ => k

/-- They are in. -/
def exC (c : Dev nD) (k : PR F) : PR F :=
  wts 2 (pl2 aaM (si c) (si_lt c)) (pl4 gaM (sb c) (sb_lt c)) (we2 aaW _) (we4 gaW _) <|
  wts 6 (pl2 abM (bsi c) (bsi_lt c)) (pl4 gbM (bsb c) (bsb_lt c)) (we2 abW _) (we4 gbW _) k

/-- The sums of four, sent on and written to the result. -/
def exD (c : Dev nD) (k : PR F) : PR F :=
  Prog.op (ld4 gaM (kb c) (kb_lt c)) fun v => Prog.op (ld2 aaM (ki c) (ki_lt c)) fun w => Prog.op (ld4 gaM (kb c) (kb_lt c)) fun _ =>
  Prog.op (st4 gaM gaW (kb c) (kb_lt c) (k0_pay3 v w)) fun _ =>
  Prog.op (ld4 gbM (bkb c) (bkb_lt c)) fun v => Prog.op (ld2 abM (bki c) (bki_lt c)) fun w => Prog.op (ld4 gbM (bkb c) (bkb_lt c)) fun _ =>
  Prog.op (st4 gbM gbW (bkb c) (bkb_lt c) (k0_pay4 v w)) fun _ =>
  Prog.op (cp 3 (p2 c) (pl4 gaM (kb c) (kb_lt c)) (pl4 gaM (kb c) (kb_lt c)) (we4 gaW _) (we4 gaW _)) fun _ =>
  Prog.op (cp 7 (p1 c) (pl4 gbM (bkb c) (bkb_lt c)) (pl4 gbM (bkb c) (bkb_lt c)) (we4 gbW _) (we4 gbW _)) fun _ =>
  Prog.op (ld4 gaM (kb c) (kb_lt c)) fun v => Prog.op (ldo1 (kb c) 0 (kb_lt c) ho0) fun _ => Prog.op (sto1 (kb c) 0 (kb_lt c) ho0 (.inl rfl) (k0_pay5 v)) fun _ =>
  Prog.op (ld4 gbM (bkb c) (bkb_lt c)) fun v => Prog.op (ldo1 (bkb c) 512 (bkb_lt c) ho5) fun _ => Prog.op (sto1 (bkb c) 512 (bkb_lt c) ho5 (.inr rfl) (k0_pay6 v)) fun _ => k

/-- The other batch kept is in. -/
def exE (c : Dev nD) (k : PR F) : PR F :=
  wts 3 (pl4 gaM (kb c) (kb_lt c)) (pl4 gaM (kb c) (kb_lt c)) (we4 gaW _) (we4 gaW _) <|
  wts 7 (pl4 gbM (bkb c) (bkb_lt c)) (pl4 gbM (bkb c) (bkb_lt c)) (we4 gbW _) (we4 gbW _) k

/-- Both batches kept sent on, the second written to the result. -/
def exF (c : Dev nD) (k : PR F) : PR F :=
  Prog.op (cp 8 (p1 c) (duo gaM (h0 c) (h0_lt c)) (duo gaM (h0 c) (h0_lt c)) (wed gaW _) (wed gaW _)) fun _ =>
  Prog.op (cp 9 (p2 c) (duo gbM (bh0 c) (bh0_lt c)) (duo gbM (bh0 c) (bh0_lt c)) (wed gbW _) (wed gbW _)) fun _ =>
  Prog.op (ld4 gaM (sb c) (sb_lt c)) fun v => Prog.op (ldo1 (sb c) 0 (sb_lt c) ho0) fun _ => Prog.op (sto1 (sb c) 0 (sb_lt c) ho0 (.inl rfl) (k0_pay5 v)) fun _ =>
  Prog.op (ld4 gbM (bsb c) (bsb_lt c)) fun v => Prog.op (ldo1 (bsb c) 512 (bsb_lt c) ho5) fun _ => Prog.op (sto1 (bsb c) 512 (bsb_lt c) ho5 (.inr rfl) (k0_pay6 v)) fun _ => k

/-- The other two batches are in, and written to the result. -/
def exG (c : Dev nD) : PR F :=
  wts 8 (duo gaM (h0 c) (h0_lt c)) (duo gaM (h0 c) (h0_lt c)) (wed gaW _) (wed gaW _) <|
  wts 9 (duo gbM (bh0 c) (bh0_lt c)) (duo gbM (bh0 c) (bh0_lt c)) (wed gbW _) (wed gbW _) <|
  Prog.op (ldd gaM (hb0 c) (hb0_lt c)) fun v => Prog.op (ldo2 (hb0 c) 0 (hb0_lt c) ho0) fun _ => Prog.op (sto2 (hb0 c) 0 (hb0_lt c) ho0 (.inl rfl) v) fun _ =>
  Prog.op (ldd gbM (bhb0 c) (bhb0_lt c)) fun v => Prog.op (ldo2 (bhb0 c) 512 (bhb0_lt c) ho5) fun _ => Prog.op (sto2 (bhb0 c) 512 (bhb0_lt c) ho5 (.inr rfl) v) fun _ => Prog.ret ⟨⟩

/-- The whole exchange, once every batch is stored. -/
def exP (c : Dev nD) : PR F := exA c <| exB c <| exC c <| exD c <| exE c <| exF c <| exG c

theorem b0 : 0 + 1 ≤ 4 := by decide
theorem b1 : 1 + 1 ≤ 4 := by decide
theorem b2 : 2 + 1 ≤ 4 := by decide
theorem b3 : 3 + 1 ≤ 4 := by decide

/-- Everything after the inputs are read. -/
def mainP (c : Dev nD) (x : Vec F S4x256x1024 .bf16) (wq wo wk wv : Vec F S1024x1024 .bf16) : PR F :=
  batP c 0 0 b0 l01 0 4 (partA x wq wo wk wv 0) (partB x wq wo wk wv 0) <|
  batP c 1 1 b1 l11 1 5 (partA x wq wo wk wv 1) (partB x wq wo wk wv 1) <|
  batP c 2 0 b2 l01 0 4 (partA x wq wo wk wv 2) (partB x wq wo wk wv 2) <|
  batP c 3 1 b3 l11 1 5 (partA x wq wo wk wv 3) (partB x wq wo wk wv 3) <| exP c

end Cert.KernelIdeal.Run

end
-- ==== Proof.KernelIdeal.Steps.lean ====
/-
One rule for sending a copy of the exchange and one for awaiting both its ends, and the ten copies they are used at.
-/
module

public import proofs.«01_k».proof.Proof.KernelIdeal.Schedule
public import proofs.«01_k».proof.Proof.KernelIdeal.Program

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Knd → ℕ)

/-- The whole program `k` run on device `c`, ending in `Q`. -/
abbrev runs (c : Dev nD) (k : PR F) (Q : PUnit → sProp 𝕄) : sProp 𝕄 := wp frame (wpE (defs₀ (F := F)) 𝒱₀ (c : Thread nD τ) none) Set.univ k Q

/-- Every cell's invariant and that its first round is reached. -/
def records : sProp 𝕄 :=
  iprop((bigSep Finset.univ fun ck : Dev nD × Knd => cellInv ER (exRd m) (K ck) (kcell ck))
    ∗ bigSep Finset.univ fun ck : Dev nD × Knd => reached ER (kcell ck) 0)

instance records_persistent : BI.Persistent (records m K) := by unfold records; infer_instance

/-- Those and the levels. -/
def env : sProp 𝕄 := iprop(records m K ∗ levAts L lv)

instance env_persistent : BI.Persistent (env m K) := by unfold env; infer_instance

theorem records_inv (ck : Dev nD × Knd) : records m K ⊢ cellInv ER (exRd m) (K ck) (kcell ck) := by
  have h : (bigSep Finset.univ fun ck : Dev nD × Knd => (cellInv ER (exRd m) (K ck) (kcell ck) : sProp 𝕄)) ⊢ cellInv ER (exRd m) (K ck) (kcell ck) :=
    bigSep_elim (Finset.mem_univ ck)
  unfold records
  iintro ⟨#HI, -⟩
  iapply h; iexact HI
theorem records_reached (ck : Dev nD × Knd) : records m K ⊢ reached ER (kcell ck) 0 := by
  have h : (bigSep Finset.univ fun ck : Dev nD × Knd => (reached ER (kcell ck) 0 : sProp 𝕄)) ⊢ reached ER (kcell ck) 0 :=
    bigSep_elim (Finset.mem_univ ck)
  unfold records
  iintro ⟨-, #HR⟩
  iapply h; iexact HR

/-- What device `c` owes, whatever it has waited on. -/
def st (c : Dev nD) (S : Finset (Fin 10)) : sProp 𝕄 := iprop(∃ W, owes (c : Thread nD τ) (owe c S) W)

/-- Copy `j` not sent yet; sent; and with both its ends in. -/
def todo (c : Dev nD) (j : Fin 10) : sProp 𝕄 :=
  iprop(dutyTok ER (sendCell c j) 0 false ∗ dutyTok ER (recvCell (peer j c) j) 0 false ∗ cred (tallyAt (recvCell c j) () (amt j))
    ∗ atPos ER (sendCell c j) 0 ∅ 0 ∗ atPos ER (recvCell c j) 0 ∅ 0 ∗ land (F := F) (peer j c) j)
def sent (c : Dev nD) (j : Fin 10) : sProp 𝕄 :=
  iprop(cred (tallyAt (sendCell c j) () (amt j)) ∗ cred (tallyAt (recvCell c j) () (amt j))
    ∗ atPos ER (sendCell c j) 0 ∅ 0 ∗ atPos ER (recvCell c j) 0 ∅ 0)
def fin (c : Dev nD) (j : Fin 10) : sProp 𝕄 := iprop(semVal (sendCell c j) 0 ∗ semVal (recvCell c j) 0)

/-- Copy `j` is sent: its source and its landing planes go, what is owed drops by its credit. -/
theorem wp_cp (c n : Dev nD) (j : Fin 10) (hn : n = peer j c) {s : Shape} {src dst : Memref sig .tc .vmem s .bf16} {hs : src.view.WordExact}
    {hd : dst.view.WordExact} (q : PosShare TreeShare) (fs : Buf (Elt F) (src.view.loc (c : Thread nD τ))) (S : Finset (Fin 10)) (hj : j ∈ S)
    (hN : dst.view.dmaCredit = amt j)
    (h1 : sndPay m c j = (src.view.loc (c : Thread nD τ) ↦[src.view.set]{q} fs))
    (h2 : land (F := F) (peer j c) j = iprop(∃ fd, dst.view.loc ((peer j c : Dev nD) : Thread nD τ) ↦[dst.view.set]{fullShare} fd))
    (h3 : ∀ fd, (dst.view.loc ((peer j c : Dev nD) : Thread nD τ) ↦[dst.view.set]{fullShare} (dst.view.write (Elt F) fd (src.view.read (Elt F) fs) Finset.univ)) ⊢ rcvPay m (peer j c) j)
    {k : PUnit → PR F} {Q : PUnit → sProp 𝕄} :
    iprop(env m K ∗ todo (F := F) c j ∗ sndPay m c j ∗ st (F := F) c S)
      ⊢ iprop(((sent (F := F) c j ∗ st (F := F) c (S.erase j)) -∗ runs c (k ⟨⟩) Q) -∗ runs c (.op (cp j n src dst hs hd) k) Q) := by
  subst hn
  unfold env todo sent st
  rw [h1, h2]
  iintro ⟨⟨#HR, #Hlev⟩, ⟨Ht1, Ht2, Hc, Ha1, Ha2, ⟨%fd, Hd⟩⟩, Hs, ⟨%W, HO⟩⟩ Hk
  iapply (Rounds.wp_send_pointsTo 𝒱₀ ER (exRd m) (c : Thread nD τ) none (sS := .dma (sndS j)) (sem := .dma (rcvS j)) (κ₁ := K (c, some (false, j))) (κ₂ := K (peer j c, some (true, j)))
    (r₁ := 0) (r₂ := 0) (d₁ := false) (d₂ := false) (fd := fd) (q := q) (fs := fs)
    (by rw [duties_xfer m c j false]; exact Finset.mem_singleton_self _) (by rw [duties_xfer m (peer j c) j true]; exact Finset.mem_singleton_self _)
    () () (amt j) hN (amount_xfer m c j false false) (amount_xfer m (peer j c) j true false) (owe c (S.erase j)) (owe_insert c hj) (W := W)
    (by rw [payload_snd m c j, h1]) (by rw [payload_rcv m (peer j c) j]; exact h3 fd)) $$ [Hs Hd HO Ht1 Ht2]
  · isplitr; · iapply (records_inv m K (c, some (false, j))); iexact HR
    isplitr; · iapply (records_inv m K (peer j c, some (true, j))); iexact HR
    isplitl [Hs]; · iexact Hs
    isplitl [Hd]; · iexact Hd
    isplitl [HO]; · iexact HO
    isplitl [Ht1]; · iexact Ht1
    isplitr; · iapply (records_reached m K (c, some (false, j))); iexact HR
    isplitl [Ht2]; · iexact Ht2
    iapply (records_reached m K (peer j c, some (true, j))); iexact HR
  iintro ⟨Hc', HO⟩
  iapply Hk
  isplitl [Hc' Hc Ha1 Ha2]
  · isplitl [Hc']; · iexact Hc'
    isplitl [Hc]; · iexact Hc
    isplitl [Ha1] <;> iassumption
  · iexists W; iexact HO

/-- A wait for one end of a copy: what it pays, and its cell closed. -/
theorem wp_end (c : Dev nD) (b : Bool) (j : Fin 10) {q : DmaSem sig} (hq : csem (some (b, j)) = .dma q) {s s' : Shape} {src : Memref sig .tc .vmem s .bf16}
    {dst : Memref sig .tc .vmem s' .bf16} {hs : src.view.WordExact}
    {hd : dst.view.WordExact} (S : Finset (Fin 10)) (hS : ∀ i ∈ S, lvl (some (some (b, j))) < lvl (some (some (true, i))))
    (hN : dst.view.dmaCredit = amt j) {k : PUnit → PR F} {Q : PUnit → sProp 𝕄} :
    iprop(env m K ∗ cred (tallyAt (kcell (c, some (b, j))) () (amt j)) ∗ atPos ER (kcell (c, some (b, j))) 0 ∅ 0 ∗ st (F := F) c S)
      ⊢ iprop(((semVal (kcell (c, some (b, j))) 0 ∗ (exRd m).payload (kcell (c, some (b, j))) 0 false ∗ st (F := F) c S) -∗ runs c (k ⟨⟩) Q)
        -∗ runs c (.op (.waitDma2 q src dst hs hd) k) Q) := by
  unfold env st
  iintro ⟨⟨#HR, #Hlev⟩, Hc, Ha, ⟨%W, HO⟩⟩ Hk
  iapply (Rounds.wp_wait_rest_token 𝒱₀ ER (exRd m) (c : Thread nD τ) none (sm := csem (some (b, j))) (k' := amt j) (κ := K (c, some (b, j)))
      (fun P => by rw [hq, ← hN]; exact wpE_waitDma2_eq 𝒱₀ (c : Thread nD τ) none Set.univ P) (Set.mem_univ _) () (O := owe c S) (W := W) (R := 0) (m := 0) (T := ∅)
      (by rw [Nat.zero_add]; exact (expect_xfer m c j b).symm)) $$ [Hc Ha HO]
  · isplitr; · iapply (records_inv m K (c, some (b, j))); iexact HR
    isplitl [Hc]; · iexact Hc
    isplitl [HO]; · iexact HO
    isplitr; · iapply (mayWait_owe (F := F) c (csem (some (b, j))) S (fun i hi => by rw [knd_csem]; exact hS i hi)); iexact Hlev
    iexact Ha
  iintro ⟨HO, Ha, -, Hp⟩
  imod (Rounds.cell_close ER (exRd m) (Set.mem_univ (K (c, some (b, j)))) (fun h => h) (R := 0 + 1) (duties_later m (kcell (c, some (b, j))))) $$ [Ha] with Hz
  · isplitr; · iapply (records_inv m K (c, some (b, j))); iexact HR
    iexact Ha
  iapply Hk
  isplitl [Hz]; · iexact Hz
  isplitl [Hp]
  · iapply (Entails.of_eq (show bigSep ((exRd (F := F) m).duties (kcell (c, some (b, j))) 0 \ ∅) (fun d => (exRd (F := F) m).payload (kcell (c, some (b, j))) 0 d) = (exRd (F := F) m).payload (kcell (c, some (b, j))) 0 false from by
      rw [Finset.sdiff_empty, duties_xfer, bigSep_singleton]))
    iexact Hp
  · iexists (insert (csem (some (b, j)), ()) W); iexact HO

/-- Both ends of copy `j`: its source is back and what it brought has landed. -/
theorem wp_wts (c : Dev nD) (j : Fin 10) {s : Shape} {src dst : Memref sig .tc .vmem s .bf16} {hs : src.view.WordExact} {hd : dst.view.WordExact}
    (S : Finset (Fin 10)) (hS : ∀ i ∈ S, lvl (some (some (true, j))) < lvl (some (some (true, i))))
    (h1 : src.view.dmaCredit = amt j) (h2 : dst.view.dmaCredit = amt j) {k : PR F} {Q : PUnit → sProp 𝕄} :
    iprop(env m K ∗ sent (F := F) c j ∗ st (F := F) c S)
      ⊢ iprop(((fin (F := F) c j ∗ sndPay m c j ∗ rcvPay m c j ∗ st (F := F) c S) -∗ runs c k Q) -∗ runs c (wts j src dst hs hd k) Q) := by
  unfold sent fin wts
  iintro ⟨#HE, ⟨Hc1, Hc2, Ha1, Ha2⟩, Hst⟩ Hk
  iapply (wp_end m K c false j rfl S (fun i hi => Nat.lt_of_le_of_lt (Nat.zero_le _) (hS i hi)) h1) $$ [Hc1 Ha1 Hst]
  · isplitr; · iexact HE
    isplitl [Hc1]; · iexact Hc1
    isplitl [Ha1]; · iexact Ha1
    iexact Hst
  iintro ⟨Hz1, Hp1, Hst⟩
  iapply (wp_end m K c true j rfl S hS h2) $$ [Hc2 Ha2 Hst]
  · isplitr; · iexact HE
    isplitl [Hc2]; · iexact Hc2
    isplitl [Ha2]; · iexact Ha2
    iexact Hst
  iintro ⟨Hz2, Hp2, Hst⟩
  iapply Hk
  isplitl [Hz1 Hz2]
  · isplitl [Hz1]; · iexact Hz1
    iexact Hz2
  isplitl [Hp1]; · iapply (Entails.of_eq (payload_snd m c j false)); iexact Hp1
  isplitl [Hp2]; · iapply (Entails.of_eq (payload_rcv m c j false)); iexact Hp2
  iexact Hst

end Cert.KernelIdeal.Run

end
-- ==== Proof.KernelIdeal.Moves.lean ====
/-
What the ten copies move, and what loads and stores of the exchange's buffers read and leave.
-/
module

public import proofs.«01_k».proof.Proof.KernelIdeal.Steps

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any view -/

/-- A view overwritten by what it reads of `g` holds `g`. -/
theorem write_read {sp : Space} {s : Shape} {e : EltTy} (v : View sig .tc sp s e) (f g : v.ty.Contents (Elt F)) (w : s.Idx → Elt F e)
    (hw : ∀ x, w x = v.read (Elt F) g x) {i : v.ty.Idx} (hi : i ∈ v.set) : v.write (Elt F) f w Finset.univ i = g i := by
  obtain ⟨x, -, rfl⟩ := Finset.mem_map.mp hi
  rw [View.write_emb_of_mem f w (Finset.mem_univ x), hw x, View.read_apply, cast_cast, cast_eq]

/-- A store of what the rectangle reads of `g` leaves `g` there. -/
theorem wp_put (c : Dev nD) {s : Shape} {M : Memref sig .tc .vmem s .bf16} {r : Rect s} {w : r.shape.Idx → Elt F .bf16}
    {hx : (M.access r).Stores Finset.univ} {hm : (Finset.univ : Finset r.shape.Idx) = Finset.univ ∨ ∀ a, r.stride a = 1}
    {f : Buf (Elt F) ((M.access r).loc (c : Thread nD τ))} (g : Buf (Elt F) ((M.access r).loc (c : Thread nD τ))) (hw : ∀ x, w x = (M.access r).read (Elt F) g x)
    {k : PUnit → PR F} {Q : PUnit → sProp 𝕄} :
    ((M.access r).loc (c : Thread nD τ) ↦[(M.access r).set]{fullShare} f : sProp 𝕄)
      ⊢ iprop((((M.access r).loc (c : Thread nD τ) ↦[(M.access r).set]{fullShare} g) -∗ runs c (k ⟨⟩) Q) -∗ runs c (.op (.store M r w Finset.univ hx hm) k) Q) := by
  iintro H Hk
  iapply (wp_store 𝒱₀ (c : Thread nD τ) none Set.univ (m := M) (r := r) (Mk := Finset.univ) (subset_of_eq (View.setOn_univ _))) $$ H
  iintro H
  iapply Hk
  iapply (Entails.of_eq (pointsTo_congr fun i hi => write_read (M.access r) f g w hw hi)); iexact H

/-- Points-to over a disjoint union of elements, cut. -/
theorem cut {ℓ : Loc nD τ sig} {q : PosShare TreeShare} {f : Buf (Elt F) ℓ} {S T U : Finset (Idx ℓ)} (hU : U = S ∪ T) (hd : Disjoint S T) :
    (ℓ ↦[U]{q} f : sProp 𝕄) = iprop((ℓ ↦[S]{q} f) ∗ (ℓ ↦[T]{q} f)) := by
  subst hU; exact BI.equiv_iff.mp ⟨(pointsTo_union hd).1, (pointsTo_union hd).2⟩

/-! ## The planes' memrefs: their elements and what they read -/

section Planes
variable {b k : ℕ}

theorem pa_set (h : b + 1 ≤ 4) : ((pl4 paM b h).view.set : Finset (Sh 4).Idx) = slabs 4 b 1 := (View.set_reshape _ _).trans ((View.set_slice_whole _ _).trans (sl_set h))
theorem pb_set (h : b + 1 ≤ 4) : ((pl4 pbM b h).view.set : Finset (Sh 4).Idx) = slabs 4 b 1 := (View.set_reshape _ _).trans ((View.set_slice_whole _ _).trans (sl_set h))
theorem ga_set (h : b + 1 ≤ 4) : ((pl4 gaM b h).view.set : Finset (Sh 4).Idx) = slabs 4 b 1 := (View.set_reshape _ _).trans ((View.set_slice_whole _ _).trans (sl_set h))
theorem gb_set (h : b + 1 ≤ 4) : ((pl4 gbM b h).view.set : Finset (Sh 4).Idx) = slabs 4 b 1 := (View.set_reshape _ _).trans ((View.set_slice_whole _ _).trans (sl_set h))
theorem ra_set (h : b + 1 ≤ 2) : ((pl2 raM b h).view.set : Finset (Sh 2).Idx) = slabs 2 b 1 := (View.set_reshape _ _).trans ((View.set_slice_whole _ _).trans (sl_set h))
theorem rb_set (h : b + 1 ≤ 2) : ((pl2 rbM b h).view.set : Finset (Sh 2).Idx) = slabs 2 b 1 := (View.set_reshape _ _).trans ((View.set_slice_whole _ _).trans (sl_set h))
theorem aa_set (h : b + 1 ≤ 2) : ((pl2 aaM b h).view.set : Finset (Sh 2).Idx) = slabs 2 b 1 := (View.set_reshape _ _).trans ((View.set_slice_whole _ _).trans (sl_set h))
theorem ab_set (h : b + 1 ≤ 2) : ((pl2 abM b h).view.set : Finset (Sh 2).Idx) = slabs 2 b 1 := (View.set_reshape _ _).trans ((View.set_slice_whole _ _).trans (sl_set h))
theorem ga_set2 (h : b + 2 ≤ 4) : ((duo gaM b h).view.set : Finset (Sh 4).Idx) = slabs 4 b 2 := (View.set_slice_whole _ _).trans (sl_set h)
theorem gb_set2 (h : b + 2 ≤ 4) : ((duo gbM b h).view.set : Finset (Sh 4).Idx) = slabs 4 b 2 := (View.set_slice_whole _ _).trans (sl_set h)

/-- Where an element of a squeezed plane sits in the plane. -/
abbrev sq (x : S256x512.Idx) : (Sh 1).Idx := Shape.reshapeEquiv (s' := S256x512) (s := S1x256x512) squeezes_S1x256x512_S256x512.numel_eq x

variable (X : Pl F)

theorem pa_read (h : b + 1 ≤ 4) (x : S256x512.Idx) : (pl4 paM b h).view.read (Elt F) (stack 4 X) x = stack 1 (fun s => X (b + s)) (sq x) := stack_emb h X (sq x)
theorem pb_read (h : b + 1 ≤ 4) (x : S256x512.Idx) : (pl4 pbM b h).view.read (Elt F) (stack 4 X) x = stack 1 (fun s => X (b + s)) (sq x) := stack_emb h X (sq x)
theorem ga_read (h : b + 1 ≤ 4) (x : S256x512.Idx) : (pl4 gaM b h).view.read (Elt F) (stack 4 X) x = stack 1 (fun s => X (b + s)) (sq x) := stack_emb h X (sq x)
theorem gb_read (h : b + 1 ≤ 4) (x : S256x512.Idx) : (pl4 gbM b h).view.read (Elt F) (stack 4 X) x = stack 1 (fun s => X (b + s)) (sq x) := stack_emb h X (sq x)
theorem ra_read (h : b + 1 ≤ 2) (x : S256x512.Idx) : (pl2 raM b h).view.read (Elt F) (stack 2 X) x = stack 1 (fun s => X (b + s)) (sq x) := stack_emb h X (sq x)
theorem rb_read (h : b + 1 ≤ 2) (x : S256x512.Idx) : (pl2 rbM b h).view.read (Elt F) (stack 2 X) x = stack 1 (fun s => X (b + s)) (sq x) := stack_emb h X (sq x)
theorem aa_read (h : b + 1 ≤ 2) (x : S256x512.Idx) : (pl2 aaM b h).view.read (Elt F) (stack 2 X) x = stack 1 (fun s => X (b + s)) (sq x) := stack_emb h X (sq x)
theorem ab_read (h : b + 1 ≤ 2) (x : S256x512.Idx) : (pl2 abM b h).view.read (Elt F) (stack 2 X) x = stack 1 (fun s => X (b + s)) (sq x) := stack_emb h X (sq x)

end Planes

/-- Stacks of one plane are equal if the planes are. -/
theorem stack_one {X Y : Pl F} {b b' : ℕ} (h : X b = Y b') (j : (Sh 1).Idx) : stack 1 (fun s => X (b + s)) j = stack 1 (fun s => Y (b' + s)) j := by
  have h0 : (j 0).val = 0 := by have : (j 0).val < 1 := (j 0).isLt; omega
  unfold stack; rw [h0]; exact congrFun (congrFun h _) _

variable (m : (ℓ : Loc nD τ sig) → Buf (Elt F) ℓ) (K : Dev nD × Knd → ℕ)

/-! ## Planes held, as their memrefs name them -/

section Held
variable {b : ℕ} (c : Dev nD) (q : PosShare TreeShare) (X : Pl F)

theorem pa_pts (h : b + 1 ≤ 4) : paP c q b 1 X = ((pl4 paM b h).view.loc (c : Thread nD τ) ↦[(pl4 paM b h).view.set]{q} stack 4 X : sProp 𝕄) := by
  unfold paP; rw [pa_set]
theorem pb_pts (h : b + 1 ≤ 4) : pbP c q b 1 X = ((pl4 pbM b h).view.loc (c : Thread nD τ) ↦[(pl4 pbM b h).view.set]{q} stack 4 X : sProp 𝕄) := by
  unfold pbP; rw [pb_set]
theorem ga_pts (h : b + 1 ≤ 4) : gaP c q b 1 X = ((pl4 gaM b h).view.loc (c : Thread nD τ) ↦[(pl4 gaM b h).view.set]{q} stack 4 X : sProp 𝕄) := by
  unfold gaP; rw [ga_set]
theorem gb_pts (h : b + 1 ≤ 4) : gbP c q b 1 X = ((pl4 gbM b h).view.loc (c : Thread nD τ) ↦[(pl4 gbM b h).view.set]{q} stack 4 X : sProp 𝕄) := by
  unfold gbP; rw [gb_set]
theorem ra_pts (h : b + 1 ≤ 2) : raP c q b 1 X = ((pl2 raM b h).view.loc (c : Thread nD τ) ↦[(pl2 raM b h).view.set]{q} stack 2 X : sProp 𝕄) := by
  unfold raP; rw [ra_set]
theorem rb_pts (h : b + 1 ≤ 2) : rbP c q b 1 X = ((pl2 rbM b h).view.loc (c : Thread nD τ) ↦[(pl2 rbM b h).view.set]{q} stack 2 X : sProp 𝕄) := by
  unfold rbP; rw [rb_set]
theorem aa_pts (h : b + 1 ≤ 2) : aaP c q b 1 X = ((pl2 aaM b h).view.loc (c : Thread nD τ) ↦[(pl2 aaM b h).view.set]{q} stack 2 X : sProp 𝕄) := by
  unfold aaP; rw [aa_set]
theorem ab_pts (h : b + 1 ≤ 2) : abP c q b 1 X = ((pl2 abM b h).view.loc (c : Thread nD τ) ↦[(pl2 abM b h).view.set]{q} stack 2 X : sProp 𝕄) := by
  unfold abP; rw [ab_set]
theorem ga_pts2 (h : b + 2 ≤ 4) : gaP c q b 2 X = ((duo gaM b h).view.loc (c : Thread nD τ) ↦[(duo gaM b h).view.set]{q} stack 4 X : sProp 𝕄) := by
  unfold gaP; rw [ga_set2]
theorem gb_pts2 (h : b + 2 ≤ 4) : gbP c q b 2 X = ((duo gbM b h).view.loc (c : Thread nD τ) ↦[(duo gbM b h).view.set]{q} stack 4 X : sProp 𝕄) := by
  unfold gbP; rw [gb_set2]

omit [FloatOps F]
theorem ra_lnd (h : b + 1 ≤ 2) : raE (F := F) c b 1 = (iprop(∃ fd, (pl2 raM b h).view.loc (c : Thread nD τ) ↦[(pl2 raM b h).view.set]{fullShare} fd) : sProp 𝕄) := by
  unfold raE; rw [ra_set]
theorem rb_lnd (h : b + 1 ≤ 2) : rbE (F := F) c b 1 = (iprop(∃ fd, (pl2 rbM b h).view.loc (c : Thread nD τ) ↦[(pl2 rbM b h).view.set]{fullShare} fd) : sProp 𝕄) := by
  unfold rbE; rw [rb_set]
theorem ga_lnd (h : b + 1 ≤ 4) : gaE (F := F) c b 1 = (iprop(∃ fd, (pl4 gaM b h).view.loc (c : Thread nD τ) ↦[(pl4 gaM b h).view.set]{fullShare} fd) : sProp 𝕄) := by
  unfold gaE; rw [ga_set]
theorem gb_lnd (h : b + 1 ≤ 4) : gbE (F := F) c b 1 = (iprop(∃ fd, (pl4 gbM b h).view.loc (c : Thread nD τ) ↦[(pl4 gbM b h).view.set]{fullShare} fd) : sProp 𝕄) := by
  unfold gbE; rw [gb_set]
theorem ga_lnd2 (h : b + 2 ≤ 4) : gaE (F := F) c b 2 = (iprop(∃ fd, (duo gaM b h).view.loc (c : Thread nD τ) ↦[(duo gaM b h).view.set]{fullShare} fd) : sProp 𝕄) := by
  unfold gaE; rw [ga_set2]
theorem gb_lnd2 (h : b + 2 ≤ 4) : gbE (F := F) c b 2 = (iprop(∃ fd, (duo gbM b h).view.loc (c : Thread nD τ) ↦[(duo gbM b h).view.set]{fullShare} fd) : sProp 𝕄) := by
  unfold gbE; rw [gb_set2]

end Held

/-! ## The ten copies -/

/-- A copy whose source's payload, landing region and arrival are named through its memrefs. -/
theorem wp_move (c : Dev nD) (j : Fin 10) {s : Shape} (src dst : Memref sig .tc .vmem s .bf16) (hs : src.view.WordExact) (hd : dst.view.WordExact)
    (q : PosShare TreeShare) (fs : Buf (Elt F) (src.view.loc (c : Thread nD τ))) (g : dst.view.ty.Contents (Elt F)) (hN : dst.view.dmaCredit = amt j)
    (h1 : sndPay m c j = (src.view.loc (c : Thread nD τ) ↦[src.view.set]{q} fs))
    (h2 : land (F := F) (peer j c) j = iprop(∃ fd, dst.view.loc ((peer j c : Dev nD) : Thread nD τ) ↦[dst.view.set]{fullShare} fd))
    (h3 : rcvPay m (peer j c) j = (dst.view.loc ((peer j c : Dev nD) : Thread nD τ) ↦[dst.view.set]{fullShare} g))
    (h4 : ∀ x, src.view.read (Elt F) fs x = dst.view.read (Elt F) g x)
    (S : Finset (Fin 10)) (hS : j ∈ S) {k : PUnit → PR F} {Q : PUnit → sProp 𝕄} :
    iprop(env m K ∗ todo (F := F) c j ∗ sndPay m c j ∗ st (F := F) c S)
      ⊢ iprop(((sent (F := F) c j ∗ st (F := F) c (S.erase j)) -∗ runs c (k ⟨⟩) Q) -∗ runs c (.op (cp j (peer j c) src dst hs hd) k) Q) :=
  wp_cp m K c (peer j c) j rfl (src := src) (dst := dst) q fs S hS hN h1 h2 (fun fd =>
    (Entails.of_eq (pointsTo_congr fun i hi => write_read dst.view fd g _ h4 hi)).trans (Entails.of_eq h3.symm))

/-- The copies' common conclusion. -/
abbrev Moves (c : Dev nD) (j : Fin 10) (S : Finset (Fin 10)) (e : TE F PUnit) (k : PUnit → PR F) (Q : PUnit → sProp 𝕄) : Prop :=
    iprop(env m K ∗ todo (F := F) c j ∗ sndPay m c j ∗ st (F := F) c S) ⊢ iprop(((sent (F := F) c j ∗ st (F := F) c (S.erase j)) -∗ runs c (k ⟨⟩) Q) -∗ runs c (.op e k) Q)

section Copies
variable (c : Dev nD) (S : Finset (Fin 10))

theorem cp0 (hS : (0 : Fin 10) ∈ S) {k : PUnit → PR F} {Q : PUnit → sProp 𝕄} : Moves m K c 0 S (cp 0 (p1 c) (pl4 paM (hb0 c) (hb0_lt0 c)) (pl2 raM 0 l01) (we4 paW _) (we2 raW _)) k Q :=
  wp_move m K c 0 (pl4 paM (hb0 c) (hb0_lt0 c)) (pl2 raM 0 l01) _ _ fullShare (stack 4 (PA m c)) (stack 2 (RA m (p1 c))) rfl (pa_pts c _ _ _) (ra_lnd _ _) (ra_pts _ _ _ _)
    (fun x => (pa_read _ _ _).trans ((stack_one (RA_p1 m c 0).symm _).trans (ra_read _ _ _).symm)) S hS
theorem cp1 (hS : (1 : Fin 10) ∈ S) {k : PUnit → PR F} {Q : PUnit → sProp 𝕄} : Moves m K c 1 S (cp 1 (p1 c) (pl4 paM (hb0 c + 1) (hb0_lt1 c)) (pl2 raM 1 l11) (we4 paW _) (we2 raW _)) k Q :=
  wp_move m K c 1 (pl4 paM (hb0 c + 1) (hb0_lt1 c)) (pl2 raM 1 l11) _ _ fullShare (stack 4 (PA m c)) (stack 2 (RA m (p1 c))) rfl (pa_pts c _ _ _) (ra_lnd _ _) (ra_pts _ _ _ _)
    (fun x => (pa_read _ _ _).trans ((stack_one (RA_p1 m c 1).symm _).trans (ra_read _ _ _).symm)) S hS
theorem cp4 (hS : (4 : Fin 10) ∈ S) {k : PUnit → PR F} {Q : PUnit → sProp 𝕄} : Moves m K c 4 S (cp 4 (p2 c) (pl4 pbM (bhb0 c) (bhb0_lt0 c)) (pl2 rbM 0 l01) (we4 pbW _) (we2 rbW _)) k Q :=
  wp_move m K c 4 (pl4 pbM (bhb0 c) (bhb0_lt0 c)) (pl2 rbM 0 l01) _ _ fullShare (stack 4 (PB m c)) (stack 2 (RB m (p2 c))) rfl (pb_pts c _ _ _) (rb_lnd _ _) (rb_pts _ _ _ _)
    (fun x => (pb_read _ _ _).trans ((stack_one (RB_p2 m c 0).symm _).trans (rb_read _ _ _).symm)) S hS
theorem cp5 (hS : (5 : Fin 10) ∈ S) {k : PUnit → PR F} {Q : PUnit → sProp 𝕄} : Moves m K c 5 S (cp 5 (p2 c) (pl4 pbM (bhb0 c + 1) (bhb0_lt1 c)) (pl2 rbM 1 l11) (we4 pbW _) (we2 rbW _)) k Q :=
  wp_move m K c 5 (pl4 pbM (bhb0 c + 1) (bhb0_lt1 c)) (pl2 rbM 1 l11) _ _ fullShare (stack 4 (PB m c)) (stack 2 (RB m (p2 c))) rfl (pb_pts c _ _ _) (rb_lnd _ _) (rb_pts _ _ _ _)
    (fun x => (pb_read _ _ _).trans ((stack_one (RB_p2 m c 1).symm _).trans (rb_read _ _ _).symm)) S hS
theorem cp2 (hS : (2 : Fin 10) ∈ S) {k : PUnit → PR F} {Q : PUnit → sProp 𝕄} : Moves m K c 2 S (cp 2 (p2 c) (pl2 aaM (si c) (si_lt c)) (pl4 gaM (sb c) (sb_lt c)) (we2 aaW _) (we4 gaW _)) k Q :=
  wp_move m K c 2 (pl2 aaM (si c) (si_lt c)) (pl4 gaM (sb c) (sb_lt c)) _ _ fullShare (stack 2 (AA m c)) (stack 4 (GA m (p2 c))) rfl (aa_pts c _ _ _) ((congrArg (gaE (p2 c) · 1) (kb_p2 c)).trans (ga_lnd _ _)) ((congrArg (gaP (p2 c) _ · 1 _) (kb_p2 c)).trans (ga_pts _ _ _ _))
    (fun x => (aa_read _ _ _).trans ((stack_one (GA_p2 m c).symm _).trans (ga_read _ _ _).symm)) S hS
theorem cp6 (hS : (6 : Fin 10) ∈ S) {k : PUnit → PR F} {Q : PUnit → sProp 𝕄} : Moves m K c 6 S (cp 6 (p1 c) (pl2 abM (bsi c) (bsi_lt c)) (pl4 gbM (bsb c) (bsb_lt c)) (we2 abW _) (we4 gbW _)) k Q :=
  wp_move m K c 6 (pl2 abM (bsi c) (bsi_lt c)) (pl4 gbM (bsb c) (bsb_lt c)) _ _ fullShare (stack 2 (AB m c)) (stack 4 (GB m (p1 c))) rfl (ab_pts c _ _ _) ((congrArg (gbE (p1 c) · 1) (bkb_p1 c)).trans (gb_lnd _ _)) ((congrArg (gbP (p1 c) _ · 1 _) (bkb_p1 c)).trans (gb_pts _ _ _ _))
    (fun x => (ab_read _ _ _).trans ((stack_one (GB_p1 m c).symm _).trans (gb_read _ _ _).symm)) S hS
theorem cp3 (hS : (3 : Fin 10) ∈ S) {k : PUnit → PR F} {Q : PUnit → sProp 𝕄} : Moves m K c 3 S (cp 3 (p2 c) (pl4 gaM (kb c) (kb_lt c)) (pl4 gaM (kb c) (kb_lt c)) (we4 gaW _) (we4 gaW _)) k Q :=
  wp_move m K c 3 (pl4 gaM (kb c) (kb_lt c)) (pl4 gaM (kb c) (kb_lt c)) _ _ fullShare.left (stack 4 (FA m)) (stack 4 (FA m)) rfl (ga_pts c _ _ _) ((congrArg (gaE (p2 c) · 1) (sb_p2 c)).trans (ga_lnd _ _)) ((congrArg (gaP (p2 c) _ · 1 _) (sb_p2 c)).trans (ga_pts _ _ _ _))
    (fun _ => rfl) S hS
theorem cp7 (hS : (7 : Fin 10) ∈ S) {k : PUnit → PR F} {Q : PUnit → sProp 𝕄} : Moves m K c 7 S (cp 7 (p1 c) (pl4 gbM (bkb c) (bkb_lt c)) (pl4 gbM (bkb c) (bkb_lt c)) (we4 gbW _) (we4 gbW _)) k Q :=
  wp_move m K c 7 (pl4 gbM (bkb c) (bkb_lt c)) (pl4 gbM (bkb c) (bkb_lt c)) _ _ fullShare.left (stack 4 (FB m)) (stack 4 (FB m)) rfl (gb_pts c _ _ _) ((congrArg (gbE (p1 c) · 1) (bsb_p1 c)).trans (gb_lnd _ _)) ((congrArg (gbP (p1 c) _ · 1 _) (bsb_p1 c)).trans (gb_pts _ _ _ _))
    (fun _ => rfl) S hS
theorem cp8 (hS : (8 : Fin 10) ∈ S) {k : PUnit → PR F} {Q : PUnit → sProp 𝕄} : Moves m K c 8 S (cp 8 (p1 c) (duo gaM (h0 c) (h0_lt c)) (duo gaM (h0 c) (h0_lt c)) (wed gaW _) (wed gaW _)) k Q :=
  wp_move m K c 8 (duo gaM (h0 c) (h0_lt c)) (duo gaM (h0 c) (h0_lt c)) _ _ fullShare.left (stack 4 (FA m)) (stack 4 (FA m)) rfl (ga_pts2 c _ _ _) ((congrArg (gaE (p1 c) · 2) (hb0_p1 c)).trans (ga_lnd2 _ _)) ((congrArg (gaP (p1 c) _ · 2 _) (hb0_p1 c)).trans (ga_pts2 _ _ _ _))
    (fun _ => rfl) S hS
theorem cp9 (hS : (9 : Fin 10) ∈ S) {k : PUnit → PR F} {Q : PUnit → sProp 𝕄} : Moves m K c 9 S (cp 9 (p2 c) (duo gbM (bh0 c) (bh0_lt c)) (duo gbM (bh0 c) (bh0_lt c)) (wed gbW _) (wed gbW _)) k Q :=
  wp_move m K c 9 (duo gbM (bh0 c) (bh0_lt c)) (duo gbM (bh0 c) (bh0_lt c)) _ _ fullShare.left (stack 4 (FB m)) (stack 4 (FB m)) rfl (gb_pts2 c _ _ _) ((congrArg (gbE (p2 c) · 2) (bhb0_p2 c)).trans (gb_lnd2 _ _)) ((congrArg (gbP (p2 c) _ · 2 _) (bhb0_p2 c)).trans (gb_pts2 _ _ _ _))
    (fun _ => rfl) S hS

end Copies

end Cert.KernelIdeal.Run

end
-- ==== Proof.KernelIdeal.Access.lean ====
/-
What loads and stores of the exchange's buffers read and leave, and how planes of a buffer are cut and joined.
-/
module

public import proofs.«01_k».proof.Proof.KernelIdeal.Moves

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any buffer -/

/-- A load through a rectangle of elements held, at the value `v` read. -/
theorem wp_take (c : Dev nD) {s : Shape} {M : Memref sig .tc .vmem s .bf16} {r : Rect s} {hl : M.view.LoadsAt r.toLoadRect}
    {S : Finset (Idx ((M.access r).loc (c : Thread nD τ)))} {q : PosShare TreeShare} {f : Buf (Elt F) ((M.access r).loc (c : Thread nD τ))}
    (v : r.shape.Idx → Elt F .bf16) (hS : (M.access r).set ⊆ S) (hv : (M.access r).read (Elt F) f = v)
    {k : (r.shape.Idx → Elt F .bf16) → PR F} {Q : PUnit → sProp 𝕄} :
    ((M.access r).loc (c : Thread nD τ) ↦[S]{q} f : sProp 𝕄)
      ⊢ iprop((((M.access r).loc (c : Thread nD τ) ↦[S]{q} f) -∗ runs c (k v) Q) -∗ runs c (.op (.load M r.toLoadRect hl) k) Q) := by
  subst hv; exact wp_load_rect 𝒱₀ (c : Thread nD τ) none Set.univ hS

/-- A load whose value is not used and a store over the same elements: they hold what was stored. -/
theorem wp_fill (c : Dev nD) {s : Shape} {M : Memref sig .tc .vmem s .bf16} {r : Rect s} {w : r.shape.Idx → Elt F .bf16} {hl : M.view.LoadsAt r.toLoadRect}
    {hx : (M.access r).Stores Finset.univ} {hm : (Finset.univ : Finset r.shape.Idx) = Finset.univ ∨ ∀ a, r.stride a = 1}
    (g : Buf (Elt F) ((M.access r).loc (c : Thread nD τ))) (hw : w = (M.access r).read (Elt F) g)
    {k : PUnit → PR F} {Q : PUnit → sProp 𝕄} :
    (iprop(∃ f, (M.access r).loc (c : Thread nD τ) ↦[(M.access r).set]{fullShare} f) : sProp 𝕄)
      ⊢ iprop((((M.access r).loc (c : Thread nD τ) ↦[(M.access r).set]{fullShare} g) -∗ runs c (k ⟨⟩) Q)
        -∗ runs c (.op (.load M r.toLoadRect hl) fun _ => .op (.store M r w Finset.univ hx hm) k) Q) := by
  iintro ⟨%f, H⟩ Hk
  iapply (wp_load_rect 𝒱₀ (c : Thread nD τ) none Set.univ (m := M) (r := r) (Finset.Subset.refl _)) $$ H
  iintro H
  iapply (wp_put c g (fun x => congrFun hw x)) $$ H
  iexact Hk

/-! ## Each buffer -/

section Each
variable (c : Dev nD) (q : PosShare TreeShare) (X : Pl F) {b k : ℕ}

theorem pa_acc (h : b + k ≤ 4) : ((paM.access (sl 4 b k h)).set : Finset (Sh 4).Idx) = slabs 4 b k := (View.set_slice_whole _ _).trans (sl_set h)
theorem pa_rd (h : b + k ≤ 4) : (paM.access (sl 4 b k h)).read (Elt F) (stack 4 X) = stack k fun s => X (b + s) := funext fun j => stack_emb h X j
theorem pb_acc (h : b + k ≤ 4) : ((pbM.access (sl 4 b k h)).set : Finset (Sh 4).Idx) = slabs 4 b k := (View.set_slice_whole _ _).trans (sl_set h)
theorem pb_rd (h : b + k ≤ 4) : (pbM.access (sl 4 b k h)).read (Elt F) (stack 4 X) = stack k fun s => X (b + s) := funext fun j => stack_emb h X j
theorem ra_acc (h : b + k ≤ 2) : ((raM.access (sl 2 b k h)).set : Finset (Sh 2).Idx) = slabs 2 b k := (View.set_slice_whole _ _).trans (sl_set h)
theorem ra_rd (h : b + k ≤ 2) : (raM.access (sl 2 b k h)).read (Elt F) (stack 2 X) = stack k fun s => X (b + s) := funext fun j => stack_emb h X j
theorem rb_acc (h : b + k ≤ 2) : ((rbM.access (sl 2 b k h)).set : Finset (Sh 2).Idx) = slabs 2 b k := (View.set_slice_whole _ _).trans (sl_set h)
theorem rb_rd (h : b + k ≤ 2) : (rbM.access (sl 2 b k h)).read (Elt F) (stack 2 X) = stack k fun s => X (b + s) := funext fun j => stack_emb h X j
theorem aa_acc (h : b + k ≤ 2) : ((aaM.access (sl 2 b k h)).set : Finset (Sh 2).Idx) = slabs 2 b k := (View.set_slice_whole _ _).trans (sl_set h)
theorem aa_rd (h : b + k ≤ 2) : (aaM.access (sl 2 b k h)).read (Elt F) (stack 2 X) = stack k fun s => X (b + s) := funext fun j => stack_emb h X j
theorem ab_acc (h : b + k ≤ 2) : ((abM.access (sl 2 b k h)).set : Finset (Sh 2).Idx) = slabs 2 b k := (View.set_slice_whole _ _).trans (sl_set h)
theorem ab_rd (h : b + k ≤ 2) : (abM.access (sl 2 b k h)).read (Elt F) (stack 2 X) = stack k fun s => X (b + s) := funext fun j => stack_emb h X j
theorem ga_acc (h : b + k ≤ 4) : ((gaM.access (sl 4 b k h)).set : Finset (Sh 4).Idx) = slabs 4 b k := (View.set_slice_whole _ _).trans (sl_set h)
theorem ga_rd (h : b + k ≤ 4) : (gaM.access (sl 4 b k h)).read (Elt F) (stack 4 X) = stack k fun s => X (b + s) := funext fun j => stack_emb h X j
theorem gb_acc (h : b + k ≤ 4) : ((gbM.access (sl 4 b k h)).set : Finset (Sh 4).Idx) = slabs 4 b k := (View.set_slice_whole _ _).trans (sl_set h)
theorem gb_rd (h : b + k ≤ 4) : (gbM.access (sl 4 b k h)).read (Elt F) (stack 4 X) = stack k fun s => X (b + s) := funext fun j => stack_emb h X j

theorem pa_take {b' n' : ℕ} (h : b + k ≤ 4) (h1 : b' ≤ b) (h2 : b + k ≤ b' + n') {hl : (paM : Memref sig .tc .vmem S4x256x512 .bf16).view.LoadsAt (sl 4 b k h).toLoadRect}
    {kk : ((sl 4 b k h).shape.Idx → Elt F .bf16) → PR F} {Q : PUnit → sProp 𝕄} :
    paP c q b' n' X ⊢ iprop((paP c q b' n' X -∗ runs c (kk (stack k fun s => X (b + s))) Q) -∗ runs c (.op (.load paM (sl 4 b k h).toLoadRect hl) kk) Q) :=
  wp_take c (M := paM) _ ((subset_of_eq (pa_acc h)).trans (slabs_subset h1 h2)) (pa_rd X h)
theorem pb_take {b' n' : ℕ} (h : b + k ≤ 4) (h1 : b' ≤ b) (h2 : b + k ≤ b' + n') {hl : (pbM : Memref sig .tc .vmem S4x256x512 .bf16).view.LoadsAt (sl 4 b k h).toLoadRect}
    {kk : ((sl 4 b k h).shape.Idx → Elt F .bf16) → PR F} {Q : PUnit → sProp 𝕄} :
    pbP c q b' n' X ⊢ iprop((pbP c q b' n' X -∗ runs c (kk (stack k fun s => X (b + s))) Q) -∗ runs c (.op (.load pbM (sl 4 b k h).toLoadRect hl) kk) Q) :=
  wp_take c (M := pbM) _ ((subset_of_eq (pb_acc h)).trans (slabs_subset h1 h2)) (pb_rd X h)
theorem ra_take {b' n' : ℕ} (h : b + k ≤ 2) (h1 : b' ≤ b) (h2 : b + k ≤ b' + n') {hl : (raM : Memref sig .tc .vmem S2x256x512 .bf16).view.LoadsAt (sl 2 b k h).toLoadRect}
    {kk : ((sl 2 b k h).shape.Idx → Elt F .bf16) → PR F} {Q : PUnit → sProp 𝕄} :
    raP c q b' n' X ⊢ iprop((raP c q b' n' X -∗ runs c (kk (stack k fun s => X (b + s))) Q) -∗ runs c (.op (.load raM (sl 2 b k h).toLoadRect hl) kk) Q) :=
  wp_take c (M := raM) _ ((subset_of_eq (ra_acc h)).trans (slabs_subset h1 h2)) (ra_rd X h)
theorem rb_take {b' n' : ℕ} (h : b + k ≤ 2) (h1 : b' ≤ b) (h2 : b + k ≤ b' + n') {hl : (rbM : Memref sig .tc .vmem S2x256x512 .bf16).view.LoadsAt (sl 2 b k h).toLoadRect}
    {kk : ((sl 2 b k h).shape.Idx → Elt F .bf16) → PR F} {Q : PUnit → sProp 𝕄} :
    rbP c q b' n' X ⊢ iprop((rbP c q b' n' X -∗ runs c (kk (stack k fun s => X (b + s))) Q) -∗ runs c (.op (.load rbM (sl 2 b k h).toLoadRect hl) kk) Q) :=
  wp_take c (M := rbM) _ ((subset_of_eq (rb_acc h)).trans (slabs_subset h1 h2)) (rb_rd X h)
theorem aa_take {b' n' : ℕ} (h : b + k ≤ 2) (h1 : b' ≤ b) (h2 : b + k ≤ b' + n') {hl : (aaM : Memref sig .tc .vmem S2x256x512 .bf16).view.LoadsAt (sl 2 b k h).toLoadRect}
    {kk : ((sl 2 b k h).shape.Idx → Elt F .bf16) → PR F} {Q : PUnit → sProp 𝕄} :
    aaP c q b' n' X ⊢ iprop((aaP c q b' n' X -∗ runs c (kk (stack k fun s => X (b + s))) Q) -∗ runs c (.op (.load aaM (sl 2 b k h).toLoadRect hl) kk) Q) :=
  wp_take c (M := aaM) _ ((subset_of_eq (aa_acc h)).trans (slabs_subset h1 h2)) (aa_rd X h)
theorem ab_take {b' n' : ℕ} (h : b + k ≤ 2) (h1 : b' ≤ b) (h2 : b + k ≤ b' + n') {hl : (abM : Memref sig .tc .vmem S2x256x512 .bf16).view.LoadsAt (sl 2 b k h).toLoadRect}
    {kk : ((sl 2 b k h).shape.Idx → Elt F .bf16) → PR F} {Q : PUnit → sProp 𝕄} :
    abP c q b' n' X ⊢ iprop((abP c q b' n' X -∗ runs c (kk (stack k fun s => X (b + s))) Q) -∗ runs c (.op (.load abM (sl 2 b k h).toLoadRect hl) kk) Q) :=
  wp_take c (M := abM) _ ((subset_of_eq (ab_acc h)).trans (slabs_subset h1 h2)) (ab_rd X h)
theorem ga_take {b' n' : ℕ} (h : b + k ≤ 4) (h1 : b' ≤ b) (h2 : b + k ≤ b' + n') {hl : (gaM : Memref sig .tc .vmem S4x256x512 .bf16).view.LoadsAt (sl 4 b k h).toLoadRect}
    {kk : ((sl 4 b k h).shape.Idx → Elt F .bf16) → PR F} {Q : PUnit → sProp 𝕄} :
    gaP c q b' n' X ⊢ iprop((gaP c q b' n' X -∗ runs c (kk (stack k fun s => X (b + s))) Q) -∗ runs c (.op (.load gaM (sl 4 b k h).toLoadRect hl) kk) Q) :=
  wp_take c (M := gaM) _ ((subset_of_eq (ga_acc h)).trans (slabs_subset h1 h2)) (ga_rd X h)
theorem gb_take {b' n' : ℕ} (h : b + k ≤ 4) (h1 : b' ≤ b) (h2 : b + k ≤ b' + n') {hl : (gbM : Memref sig .tc .vmem S4x256x512 .bf16).view.LoadsAt (sl 4 b k h).toLoadRect}
    {kk : ((sl 4 b k h).shape.Idx → Elt F .bf16) → PR F} {Q : PUnit → sProp 𝕄} :
    gbP c q b' n' X ⊢ iprop((gbP c q b' n' X -∗ runs c (kk (stack k fun s => X (b + s))) Q) -∗ runs c (.op (.load gbM (sl 4 b k h).toLoadRect hl) kk) Q) :=
  wp_take c (M := gbM) _ ((subset_of_eq (gb_acc h)).trans (slabs_subset h1 h2)) (gb_rd X h)
theorem pa_fill (h : b + k ≤ 4) {w : (sl 4 b k h).shape.Idx → Elt F .bf16} (hw : w = stack k fun s => X (b + s)) {hl : (paM : Memref sig .tc .vmem S4x256x512 .bf16).view.LoadsAt (sl 4 b k h).toLoadRect}
    {hx : (paM.access (sl 4 b k h)).Stores Finset.univ} {hm : (Finset.univ : Finset (sl 4 b k h).shape.Idx) = Finset.univ ∨ ∀ a, (sl 4 b k h).stride a = 1} {kk : PUnit → PR F} {Q : PUnit → sProp 𝕄} :
    (iprop(∃ f, (c : Thread nD τ).loc cc0_scratch0 ↦[slabs 4 b k]{fullShare} f) : sProp 𝕄) ⊢ iprop((paP c fullShare b k X -∗ runs c (kk ⟨⟩) Q)
      -∗ runs c (.op (.load paM (sl 4 b k h).toLoadRect hl) fun _ => .op (.store paM (sl 4 b k h) w Finset.univ hx hm) kk) Q) := by
  have e : ((c : Thread nD τ).loc cc0_scratch0 ↦[(paM.access (sl 4 b k h)).set]{fullShare} stack 4 X : sProp 𝕄) = paP c fullShare b k X := by unfold paP; rw [pa_acc h]
  rw [← e, ← pa_acc (k := k) h]
  exact wp_fill c (M := paM) (r := sl 4 b k h) (stack 4 X) (hw.trans (pa_rd X h).symm)
theorem pb_fill (h : b + k ≤ 4) {w : (sl 4 b k h).shape.Idx → Elt F .bf16} (hw : w = stack k fun s => X (b + s)) {hl : (pbM : Memref sig .tc .vmem S4x256x512 .bf16).view.LoadsAt (sl 4 b k h).toLoadRect}
    {hx : (pbM.access (sl 4 b k h)).Stores Finset.univ} {hm : (Finset.univ : Finset (sl 4 b k h).shape.Idx) = Finset.univ ∨ ∀ a, (sl 4 b k h).stride a = 1} {kk : PUnit → PR F} {Q : PUnit → sProp 𝕄} :
    (iprop(∃ f, (c : Thread nD τ).loc cc0_scratch1 ↦[slabs 4 b k]{fullShare} f) : sProp 𝕄) ⊢ iprop((pbP c fullShare b k X -∗ runs c (kk ⟨⟩) Q)
      -∗ runs c (.op (.load pbM (sl 4 b k h).toLoadRect hl) fun _ => .op (.store pbM (sl 4 b k h) w Finset.univ hx hm) kk) Q) := by
  have e : ((c : Thread nD τ).loc cc0_scratch1 ↦[(pbM.access (sl 4 b k h)).set]{fullShare} stack 4 X : sProp 𝕄) = pbP c fullShare b k X := by unfold pbP; rw [pb_acc h]
  rw [← e, ← pb_acc (k := k) h]
  exact wp_fill c (M := pbM) (r := sl 4 b k h) (stack 4 X) (hw.trans (pb_rd X h).symm)
theorem aa_fill (h : b + k ≤ 2) {w : (sl 2 b k h).shape.Idx → Elt F .bf16} (hw : w = stack k fun s => X (b + s)) {hl : (aaM : Memref sig .tc .vmem S2x256x512 .bf16).view.LoadsAt (sl 2 b k h).toLoadRect}
    {hx : (aaM.access (sl 2 b k h)).Stores Finset.univ} {hm : (Finset.univ : Finset (sl 2 b k h).shape.Idx) = Finset.univ ∨ ∀ a, (sl 2 b k h).stride a = 1} {kk : PUnit → PR F} {Q : PUnit → sProp 𝕄} :
    (iprop(∃ f, (c : Thread nD τ).loc cc0_scratch4 ↦[slabs 2 b k]{fullShare} f) : sProp 𝕄) ⊢ iprop((aaP c fullShare b k X -∗ runs c (kk ⟨⟩) Q)
      -∗ runs c (.op (.load aaM (sl 2 b k h).toLoadRect hl) fun _ => .op (.store aaM (sl 2 b k h) w Finset.univ hx hm) kk) Q) := by
  have e : ((c : Thread nD τ).loc cc0_scratch4 ↦[(aaM.access (sl 2 b k h)).set]{fullShare} stack 2 X : sProp 𝕄) = aaP c fullShare b k X := by unfold aaP; rw [aa_acc h]
  rw [← e, ← aa_acc (k := k) h]
  exact wp_fill c (M := aaM) (r := sl 2 b k h) (stack 2 X) (hw.trans (aa_rd X h).symm)
theorem ab_fill (h : b + k ≤ 2) {w : (sl 2 b k h).shape.Idx → Elt F .bf16} (hw : w = stack k fun s => X (b + s)) {hl : (abM : Memref sig .tc .vmem S2x256x512 .bf16).view.LoadsAt (sl 2 b k h).toLoadRect}
    {hx : (abM.access (sl 2 b k h)).Stores Finset.univ} {hm : (Finset.univ : Finset (sl 2 b k h).shape.Idx) = Finset.univ ∨ ∀ a, (sl 2 b k h).stride a = 1} {kk : PUnit → PR F} {Q : PUnit → sProp 𝕄} :
    (iprop(∃ f, (c : Thread nD τ).loc cc0_scratch5 ↦[slabs 2 b k]{fullShare} f) : sProp 𝕄) ⊢ iprop((abP c fullShare b k X -∗ runs c (kk ⟨⟩) Q)
      -∗ runs c (.op (.load abM (sl 2 b k h).toLoadRect hl) fun _ => .op (.store abM (sl 2 b k h) w Finset.univ hx hm) kk) Q) := by
  have e : ((c : Thread nD τ).loc cc0_scratch5 ↦[(abM.access (sl 2 b k h)).set]{fullShare} stack 2 X : sProp 𝕄) = abP c fullShare b k X := by unfold abP; rw [ab_acc h]
  rw [← e, ← ab_acc (k := k) h]
  exact wp_fill c (M := abM) (r := sl 2 b k h) (stack 2 X) (hw.trans (ab_rd X h).symm)
theorem ga_fill (h : b + k ≤ 4) {w : (sl 4 b k h).shape.Idx → Elt F .bf16} (hw : w = stack k fun s => X (b + s)) {hl : (gaM : Memref sig .tc .vmem S4x256x512 .bf16).view.LoadsAt (sl 4 b k h).toLoadRect}
    {hx : (gaM.access (sl 4 b k h)).Stores Finset.univ} {hm : (Finset.univ : Finset (sl 4 b k h).shape.Idx) = Finset.univ ∨ ∀ a, (sl 4 b k h).stride a = 1} {kk : PUnit → PR F} {Q : PUnit → sProp 𝕄} :
    (iprop(∃ f, (c : Thread nD τ).loc cc0_scratch6 ↦[slabs 4 b k]{fullShare} f) : sProp 𝕄) ⊢ iprop((gaP c fullShare b k X -∗ runs c (kk ⟨⟩) Q)
      -∗ runs c (.op (.load gaM (sl 4 b k h).toLoadRect hl) fun _ => .op (.store gaM (sl 4 b k h) w Finset.univ hx hm) kk) Q) := by
  have e : ((c : Thread nD τ).loc cc0_scratch6 ↦[(gaM.access (sl 4 b k h)).set]{fullShare} stack 4 X : sProp 𝕄) = gaP c fullShare b k X := by unfold gaP; rw [ga_acc h]
  rw [← e, ← ga_acc (k := k) h]
  exact wp_fill c (M := gaM) (r := sl 4 b k h) (stack 4 X) (hw.trans (ga_rd X h).symm)
theorem gb_fill (h : b + k ≤ 4) {w : (sl 4 b k h).shape.Idx → Elt F .bf16} (hw : w = stack k fun s => X (b + s)) {hl : (gbM : Memref sig .tc .vmem S4x256x512 .bf16).view.LoadsAt (sl 4 b k h).toLoadRect}
    {hx : (gbM.access (sl 4 b k h)).Stores Finset.univ} {hm : (Finset.univ : Finset (sl 4 b k h).shape.Idx) = Finset.univ ∨ ∀ a, (sl 4 b k h).stride a = 1} {kk : PUnit → PR F} {Q : PUnit → sProp 𝕄} :
    (iprop(∃ f, (c : Thread nD τ).loc cc0_scratch7 ↦[slabs 4 b k]{fullShare} f) : sProp 𝕄) ⊢ iprop((gbP c fullShare b k X -∗ runs c (kk ⟨⟩) Q)
      -∗ runs c (.op (.load gbM (sl 4 b k h).toLoadRect hl) fun _ => .op (.store gbM (sl 4 b k h) w Finset.univ hx hm) kk) Q) := by
  have e : ((c : Thread nD τ).loc cc0_scratch7 ↦[(gbM.access (sl 4 b k h)).set]{fullShare} stack 4 X : sProp 𝕄) = gbP c fullShare b k X := by unfold gbP; rw [gb_acc h]
  rw [← e, ← gb_acc (k := k) h]
  exact wp_fill c (M := gbM) (r := sl 4 b k h) (stack 4 X) (hw.trans (gb_rd X h).symm)

end Each

/-! ## Cutting and joining planes -/

section Cuts
variable (c : Dev nD) (q : PosShare TreeShare) (X : Pl F)

theorem pa_cut {b n a k a' k' : ℕ} (hU : slabs 4 b n = slabs 4 a k ∪ slabs 4 a' k') (hd : a + k ≤ a' ∨ a' + k' ≤ a) :
    paP c q b n X = iprop(paP c q a k X ∗ paP c q a' k' X) := cut hU (slabs_disjoint hd)
theorem pb_cut {b n a k a' k' : ℕ} (hU : slabs 4 b n = slabs 4 a k ∪ slabs 4 a' k') (hd : a + k ≤ a' ∨ a' + k' ≤ a) :
    pbP c q b n X = iprop(pbP c q a k X ∗ pbP c q a' k' X) := cut hU (slabs_disjoint hd)
theorem ra_cut {b n a k a' k' : ℕ} (hU : slabs 2 b n = slabs 2 a k ∪ slabs 2 a' k') (hd : a + k ≤ a' ∨ a' + k' ≤ a) :
    raP c q b n X = iprop(raP c q a k X ∗ raP c q a' k' X) := cut hU (slabs_disjoint hd)
theorem rb_cut {b n a k a' k' : ℕ} (hU : slabs 2 b n = slabs 2 a k ∪ slabs 2 a' k') (hd : a + k ≤ a' ∨ a' + k' ≤ a) :
    rbP c q b n X = iprop(rbP c q a k X ∗ rbP c q a' k' X) := cut hU (slabs_disjoint hd)
theorem aa_cut {b n a k a' k' : ℕ} (hU : slabs 2 b n = slabs 2 a k ∪ slabs 2 a' k') (hd : a + k ≤ a' ∨ a' + k' ≤ a) :
    aaP c q b n X = iprop(aaP c q a k X ∗ aaP c q a' k' X) := cut hU (slabs_disjoint hd)
theorem ab_cut {b n a k a' k' : ℕ} (hU : slabs 2 b n = slabs 2 a k ∪ slabs 2 a' k') (hd : a + k ≤ a' ∨ a' + k' ≤ a) :
    abP c q b n X = iprop(abP c q a k X ∗ abP c q a' k' X) := cut hU (slabs_disjoint hd)
theorem ga_cut {b n a k a' k' : ℕ} (hU : slabs 4 b n = slabs 4 a k ∪ slabs 4 a' k') (hd : a + k ≤ a' ∨ a' + k' ≤ a) :
    gaP c q b n X = iprop(gaP c q a k X ∗ gaP c q a' k' X) := cut hU (slabs_disjoint hd)
theorem gb_cut {b n a k a' k' : ℕ} (hU : slabs 4 b n = slabs 4 a k ∪ slabs 4 a' k') (hd : a + k ≤ a' ∨ a' + k' ≤ a) :
    gbP c q b n X = iprop(gbP c q a k X ∗ gbP c q a' k' X) := cut hU (slabs_disjoint hd)
theorem ga_halves {b n : ℕ} : gaP c fullShare b n X ⊢ iprop(gaP c fullShare.left b n X ∗ gaP c fullShare.right b n X) :=
  (pointsTo_share (PosShare.mem_left_op_right _)).1
theorem ga_full {b n : ℕ} : iprop(gaP c fullShare.left b n X ∗ gaP c fullShare.right b n X) ⊢ gaP c fullShare b n X :=
  (pointsTo_share (PosShare.mem_left_op_right _)).2
theorem gb_halves {b n : ℕ} : gbP c fullShare b n X ⊢ iprop(gbP c fullShare.left b n X ∗ gbP c fullShare.right b n X) :=
  (pointsTo_share (PosShare.mem_left_op_right _)).1
theorem gb_full {b n : ℕ} : iprop(gbP c fullShare.left b n X ∗ gbP c fullShare.right b n X) ⊢ gbP c fullShare b n X :=
  (pointsTo_share (PosShare.mem_left_op_right _)).2

end Cuts

end Cert.KernelIdeal.Run

end
-- ==== Proof.KernelIdeal.Exchange.lean ====
/-
The exchange, stage by stage: what each stage takes and what it leaves.
-/
module

public import proofs.«01_k».proof.Proof.KernelIdeal.Access
public import Idealize.ShloMosaic.Lib.Pipeline.Value

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Knd → ℕ)

/-! ## The sums computed -/

theorem pay1_eq {X Y Z : Pl F} {b b' : ℕ} (h : ∀ s, Z s = fun r k => FloatOps.addf (X (b + s) r k) (Y (b' + s) r k)) :
    k0_pay1 (stack 2 fun s => X (b + s)) (stack 2 fun s => Y (b' + s)) = stack 2 fun s => Z (0 + s) := by
  have e : ∀ v w : Vec F S2x256x512 .bf16, k0_pay1 v w = shapeCast S2x256x512 (addf v w) shapeCasts_S2x256x512_S2x256x512 := fun _ _ => rfl
  rw [e, shapeCast_self]; funext j
  show FloatOps.addf _ _ = _
  unfold stack; beta_reduce; rw [Nat.zero_add, h]
theorem pay2_eq {X Y Z : Pl F} {b b' : ℕ} (h : ∀ s, Z s = fun r k => FloatOps.addf (X (b + s) r k) (Y (b' + s) r k)) :
    k0_pay2 (stack 2 fun s => X (b + s)) (stack 2 fun s => Y (b' + s)) = stack 2 fun s => Z (0 + s) := pay1_eq h

/-- A sum of two planes, taken without their leading axis. -/
theorem pay3_sum (v w : Vec F S1x256x512 .bf16) : k0_pay3 v w = addf v w := by
  have e : k0_pay3 v w = shapeCast S1x256x512 (shapeCast S256x512 (addf v w) shapeCasts_S1x256x512_S256x512) shapeCasts_S256x512_S1x256x512 := rfl
  rw [e, shapeCast_shapeCast]
theorem pay3_eq {X Y Z : Pl F} {b b' : ℕ} (h : Z b = fun r k => FloatOps.addf (X b r k) (Y b' r k)) :
    k0_pay3 (stack 1 fun s => X (b + s)) (stack 1 fun s => Y (b' + s)) = stack 1 fun s => Z (b + s) := by
  rw [pay3_sum]; funext j
  have h0 : (j 0).val = 0 := by have : (j 0).val < 1 := (j 0).isLt; omega
  show FloatOps.addf _ _ = _
  unfold stack; rw [h0]; show FloatOps.addf (X b _ _) (Y b' _ _) = Z b _ _; rw [h]
theorem pay4_eq {X Y Z : Pl F} {b b' : ℕ} (h : Z b = fun r k => FloatOps.addf (X b r k) (Y b' r k)) :
    k0_pay4 (stack 1 fun s => X (b + s)) (stack 1 fun s => Y (b' + s)) = stack 1 fun s => Z (b + s) := pay3_eq h
theorem pay5_eq (v : Vec F S1x256x512 .bf16) : k0_pay5 v = v := shapeCast_shapeCast v _ _
theorem pay6_eq (v : Vec F S1x256x512 .bf16) : k0_pay6 v = v := shapeCast_shapeCast v _ _

/-! ## The result's buffer -/

/-- The result's buffer, right where `P` holds. -/
def outD (c : Dev nD) (P : S4x256x1024.Idx → Prop) : sProp 𝕄 :=
  iprop(∃ f : S4x256x1024.Idx → Elt F .bf16, ⌜∀ i, P i → f i = OUT m i⌝ ∗ (c : Thread nD τ).loc cc0_stg5_0 ↦{fullShare} f)

/-- A block of the result stored. -/
theorem wp_sto (c : Dev nD) (P : S4x256x1024.Idx → Prop) {r : Rect S4x256x1024} {w : r.shape.Idx → Elt F .bf16} (hw : ∀ x, w x = OUT m (r.emb x))
    {hl : (outM : Memref sig .tc .vmem S4x256x1024 .bf16).view.LoadsAt r.toLoadRect}
    {hx : (outM.access r).Stores Finset.univ} {hm : (Finset.univ : Finset r.shape.Idx) = Finset.univ ∨ ∀ a, r.stride a = 1} {kk : PUnit → PR F} {Q : PUnit → sProp 𝕄} :
    outD m c P ⊢ iprop((outD m c (fun i => P i ∨ i ∈ r.set) -∗ runs c (kk ⟨⟩) Q)
      -∗ runs c (.op (.load outM r.toLoadRect hl) fun _ => .op (.store outM r w Finset.univ hx hm) kk) Q) := by
  unfold outD
  iintro ⟨%f, %hf, H⟩ Hk
  iapply (wp_load_rect 𝒱₀ (c : Thread nD τ) none Set.univ (m := outM) (r := r) (Finset.subset_univ _)) $$ H
  iintro H
  iapply (wp_store 𝒱₀ (c : Thread nD τ) none Set.univ (m := outM) (r := r) (Mk := Finset.univ) (Finset.subset_univ _)) $$ H
  iintro H
  iapply Hk
  iexists ((outM.access r).write (Elt F) f w Finset.univ)
  isplitr
  · ipureintro
    intro i hi
    by_cases hr : i ∈ r.set
    · exact write_read (outM.access r) f (OUT m) w hw (by rw [show (outM.access r).set = r.set from View.set_slice_whole _ _]; exact hr)
    · rw [← hf i (hi.resolve_right hr)]
      exact View.write_of_not_mem f w Finset.univ (by rw [View.setOn_univ, show (outM.access r).set = r.set from View.set_slice_whole _ _]; exact hr)
  · iapply (Entails.of_eq (show ((outM.access r).loc (c : Thread nD τ) ↦{fullShare} (outM.access r).write (Elt F) f w Finset.univ : sProp 𝕄) = ((c : Thread nD τ).loc cc0_stg5_0 ↦{fullShare} (outM.access r).write (Elt F) f w Finset.univ) from rfl)); iexact H

/-- The result under a block of its left columns, and of its right ones. -/
theorem out_left {b n : ℕ} (h : b + n ≤ 4) (x : (Sh n).Idx) : stack n (fun s => FA m (b + s)) x = OUT m ((so b n 0 h ho0).emb x) := by
  have h2 : (x 2).val < 512 := (x 2).isLt
  have e0 : ((so b n 0 h ho0).emb x 0).val = b + (x 0).val := by rw [Rect.emb_apply]; simp
  have e1 : ((so b n 0 h ho0).emb x 1).val = (x 1).val := by rw [Rect.emb_apply]; simp
  have e2 : ((so b n 0 h ho0).emb x 2).val = (x 2).val := by rw [Rect.emb_apply]; simp
  unfold OUT; rw [e0, e1, e2, if_pos h2]; rfl
theorem out_right {b n : ℕ} (h : b + n ≤ 4) (x : (Sh n).Idx) : stack n (fun s => FB m (b + s)) x = OUT m ((so b n 512 h ho5).emb x) := by
  have h2 : (x 2).val < 512 := (x 2).isLt
  have e0 : ((so b n 512 h ho5).emb x 0).val = b + (x 0).val := by rw [Rect.emb_apply]; simp
  have e1 : ((so b n 512 h ho5).emb x 1).val = (x 1).val := by rw [Rect.emb_apply]; simp
  have e2 : ((so b n 512 h ho5).emb x 2).val = 512 + (x 2).val := by rw [Rect.emb_apply]; simp
  unfold OUT; rw [e0, e1, e2, if_neg (by omega), Nat.add_sub_cancel_left]; rfl

theorem out5 {b : ℕ} (h : b + 1 ≤ 4) (x : (Sh 1).Idx) : k0_pay5 (stack 1 fun s => FA m (b + s)) x = OUT m ((so b 1 0 h ho0).emb x) := by
  rw [pay5_eq]; exact out_left m h x
theorem out6 {b : ℕ} (h : b + 1 ≤ 4) (x : (Sh 1).Idx) : k0_pay6 (stack 1 fun s => FB m (b + s)) x = OUT m ((so b 1 512 h ho5).emb x) := by
  rw [pay6_eq]; exact out_right m h x

/-! ## The stages -/

/-- Both ends of copy `j` are in: what it sent is back and what was sent here has landed. -/
def done (c : Dev nD) (j : Fin 10) : sProp 𝕄 := iprop(fin (F := F) c j ∗ sndPay m c j ∗ rcvPay m c j)

/-- A wait for both ends of copy `j`. -/
theorem wp_in (c : Dev nD) (j : Fin 10) (S : Finset (Fin 10)) (hS : ∀ i ∈ S, lvl (some (some (true, j))) < lvl (some (some (true, i))))
    {s : Shape} (src dst : Memref sig .tc .vmem s .bf16) {hs : src.view.WordExact} {hd : dst.view.WordExact}
    (h1 : src.view.dmaCredit = amt j) (h2 : dst.view.dmaCredit = amt j) {k : PR F} {Q : PUnit → sProp 𝕄} :
    iprop(env m K ∗ sent (F := F) c j ∗ st (F := F) c S) ⊢ iprop(((done m c j ∗ st (F := F) c S) -∗ runs c k Q) -∗ runs c (wts j src dst hs hd k) Q) := by
  unfold done
  iintro ⟨#HE, Hs, HO⟩ Hk
  iapply (wp_wts m K c j S hS h1 h2) $$ [Hs HO]
  · isplitr; · iexact HE
    isplitl [Hs]; · iexact Hs
    iexact HO
  iintro ⟨H1, H2, H3, HO⟩
  iapply Hk
  isplitr [HO]
  · isplitl [H1]; · iexact H1
    isplitl [H2]; · iexact H2
    iexact H3
  iexact HO

section Stages
variable (c : Dev nD) (S : Finset (Fin 10))

theorem snd2 : aaP c fullShare (si c) 1 (AA m c) ⊢ sndPay m c 2 := Entails.of_eq rfl
theorem snd6 : abP c fullShare (bsi c) 1 (AB m c) ⊢ sndPay m c 6 := Entails.of_eq rfl
theorem snd3 : gaP c fullShare.left (kb c) 1 (FA m) ⊢ sndPay m c 3 := Entails.of_eq rfl
theorem snd7 : gbP c fullShare.left (bkb c) 1 (FB m) ⊢ sndPay m c 7 := Entails.of_eq rfl
theorem snd8 : gaP c fullShare.left (h0 c) 2 (FA m) ⊢ sndPay m c 8 := Entails.of_eq rfl
theorem snd9 : gbP c fullShare.left (bh0 c) 2 (FB m) ⊢ sndPay m c 9 := Entails.of_eq rfl
omit [FloatOps F] in
theorem ga_some (X : Pl F) {b n : ℕ} : gaP c fullShare b n X ⊢ (iprop(∃ f, (c : Thread nD τ).loc cc0_scratch6 ↦[slabs 4 b n]{fullShare} f) : sProp 𝕄) := by
  unfold gaP; iintro H; iexists _; iexact H
omit [FloatOps F] in
theorem gb_some (X : Pl F) {b n : ℕ} : gbP c fullShare b n X ⊢ (iprop(∃ f, (c : Thread nD τ).loc cc0_scratch7 ↦[slabs 4 b n]{fullShare} f) : sProp 𝕄) := by
  unfold gbP; iintro H; iexists _; iexact H

/-- The partners' partials come in, -/
theorem wp_exA (s0 : ∀ i ∈ S, lvl (some (some (true, 0))) < lvl (some (some (true, i)))) (s4 : ∀ i ∈ S, lvl (some (some (true, 4))) < lvl (some (some (true, i)))) (s1 : ∀ i ∈ S, lvl (some (some (true, 1))) < lvl (some (some (true, i)))) (s5 : ∀ i ∈ S, lvl (some (some (true, 5))) < lvl (some (some (true, i)))) {k : PR F} {Q : PUnit → sProp 𝕄} :
    iprop(env m K ∗ sent (F := F) c 0 ∗ sent (F := F) c 4 ∗ sent (F := F) c 1 ∗ sent (F := F) c 5 ∗ st (F := F) c S)
      ⊢ iprop(((done m c 0 ∗ done m c 4 ∗ done m c 1 ∗ done m c 5 ∗ st (F := F) c S) -∗ runs c k Q) -∗ runs c (exA c k) Q) := by
  unfold exA
  iintro ⟨#HE, H0, H4, H1, H5, HO⟩ Hk
  iapply (wp_in m K c 0 S s0 (pl4 paM (hb0 c) (hb0_lt0 c)) (pl2 raM 0 l01) rfl rfl) $$ [H0 HO]
  · isplitr; · iexact HE
    isplitl [H0]; · iexact H0
    iexact HO
  iintro ⟨D0, HO⟩
  iapply (wp_in m K c 4 S s4 (pl4 pbM (bhb0 c) (bhb0_lt0 c)) (pl2 rbM 0 l01) rfl rfl) $$ [H4 HO]
  · isplitr; · iexact HE
    isplitl [H4]; · iexact H4
    iexact HO
  iintro ⟨D4, HO⟩
  iapply (wp_in m K c 1 S s1 (pl4 paM (hb0 c + 1) (hb0_lt1 c)) (pl2 raM 1 l11) rfl rfl) $$ [H1 HO]
  · isplitr; · iexact HE
    isplitl [H1]; · iexact H1
    iexact HO
  iintro ⟨D1, HO⟩
  iapply (wp_in m K c 5 S s5 (pl4 pbM (bhb0 c + 1) (bhb0_lt1 c)) (pl2 rbM 1 l11) rfl rfl) $$ [H5 HO]
  · isplitr; · iexact HE
    isplitl [H5]; · iexact H5
    iexact HO
  iintro ⟨D5, HO⟩
  iapply Hk
  isplitl [D0]; · iexact D0
  isplitl [D4]; · iexact D4
  isplitl [D1]; · iexact D1
  isplitl [D5]; · iexact D5
  iexact HO

/-- the sums of two, -/
theorem wp_exC (s2 : ∀ i ∈ S, lvl (some (some (true, 2))) < lvl (some (some (true, i)))) (s6 : ∀ i ∈ S, lvl (some (some (true, 6))) < lvl (some (some (true, i)))) {k : PR F} {Q : PUnit → sProp 𝕄} :
    iprop(env m K ∗ sent (F := F) c 2 ∗ sent (F := F) c 6 ∗ st (F := F) c S)
      ⊢ iprop(((done m c 2 ∗ done m c 6 ∗ st (F := F) c S) -∗ runs c k Q) -∗ runs c (exC c k) Q) := by
  unfold exC
  iintro ⟨#HE, H2, H6, HO⟩ Hk
  iapply (wp_in m K c 2 S s2 (pl2 aaM (si c) (si_lt c)) (pl4 gaM (sb c) (sb_lt c)) rfl rfl) $$ [H2 HO]
  · isplitr; · iexact HE
    isplitl [H2]; · iexact H2
    iexact HO
  iintro ⟨D2, HO⟩
  iapply (wp_in m K c 6 S s6 (pl2 abM (bsi c) (bsi_lt c)) (pl4 gbM (bsb c) (bsb_lt c)) rfl rfl) $$ [H6 HO]
  · isplitr; · iexact HE
    isplitl [H6]; · iexact H6
    iexact HO
  iintro ⟨D6, HO⟩
  iapply Hk
  isplitl [D2]; · iexact D2
  isplitl [D6]; · iexact D6
  iexact HO

/-- and the other batch kept. -/
theorem wp_exE (s3 : ∀ i ∈ S, lvl (some (some (true, 3))) < lvl (some (some (true, i)))) (s7 : ∀ i ∈ S, lvl (some (some (true, 7))) < lvl (some (some (true, i)))) {k : PR F} {Q : PUnit → sProp 𝕄} :
    iprop(env m K ∗ sent (F := F) c 3 ∗ sent (F := F) c 7 ∗ st (F := F) c S)
      ⊢ iprop(((done m c 3 ∗ done m c 7 ∗ st (F := F) c S) -∗ runs c k Q) -∗ runs c (exE c k) Q) := by
  unfold exE
  iintro ⟨#HE, H3, H7, HO⟩ Hk
  iapply (wp_in m K c 3 S s3 (pl4 gaM (kb c) (kb_lt c)) (pl4 gaM (kb c) (kb_lt c)) rfl rfl) $$ [H3 HO]
  · isplitr; · iexact HE
    isplitl [H3]; · iexact H3
    iexact HO
  iintro ⟨D3, HO⟩
  iapply (wp_in m K c 7 S s7 (pl4 gbM (bkb c) (bkb_lt c)) (pl4 gbM (bkb c) (bkb_lt c)) rfl rfl) $$ [H7 HO]
  · isplitr; · iexact HE
    isplitl [H7]; · iexact H7
    iexact HO
  iintro ⟨D7, HO⟩
  iapply Hk
  isplitl [D3]; · iexact D3
  isplitl [D7]; · iexact D7
  iexact HO

/-- The planes sent of the sums of two, and the ones kept. -/
theorem two_A : slabs 2 0 2 = slabs 2 (si c) 1 ∪ slabs 2 (ki c) 1 := by
  have h : (si c = 0 ∧ ki c = 1) ∨ (si c = 1 ∧ ki c = 0) := by revert c; decide
  ext i; rw [Finset.mem_union, mem_slabs, mem_slabs, mem_slabs]; omega
theorem two_B : slabs 2 0 2 = slabs 2 (bsi c) 1 ∪ slabs 2 (bki c) 1 := by
  have h : (bsi c = 0 ∧ bki c = 1) ∨ (bsi c = 1 ∧ bki c = 0) := by revert c; decide
  ext i; rw [Finset.mem_union, mem_slabs, mem_slabs, mem_slabs]; omega
theorem si_ki : si c + 1 ≤ ki c ∨ ki c + 1 ≤ si c := by revert c; decide
theorem bsi_bki : bsi c + 1 ≤ bki c ∨ bki c + 1 ≤ bsi c := by revert c; decide

/-- The sums of two computed, one plane of each sent on. -/
theorem wp_exB (t2 : (2 : Fin 10) ∈ S) (t6 : (6 : Fin 10) ∈ S.erase 2) {k : PR F} {Q : PUnit → sProp 𝕄} :
    iprop(env m K ∗ paP c fullShare (h0 c) 2 (PA m c) ∗ raP c fullShare 0 2 (RA m c) ∗ (∃ f, (c : Thread nD τ).loc cc0_scratch4 ↦[slabs 2 0 2]{fullShare} f)
        ∗ pbP c fullShare (bh0 c) 2 (PB m c) ∗ rbP c fullShare 0 2 (RB m c) ∗ (∃ f, (c : Thread nD τ).loc cc0_scratch5 ↦[slabs 2 0 2]{fullShare} f)
        ∗ todo (F := F) c 2 ∗ todo (F := F) c 6 ∗ st (F := F) c S)
      ⊢ iprop(((paP c fullShare (h0 c) 2 (PA m c) ∗ raP c fullShare 0 2 (RA m c) ∗ aaP c fullShare (ki c) 1 (AA m c)
        ∗ pbP c fullShare (bh0 c) 2 (PB m c) ∗ rbP c fullShare 0 2 (RB m c) ∗ abP c fullShare (bki c) 1 (AB m c)
        ∗ sent (F := F) c 2 ∗ sent (F := F) c 6 ∗ st (F := F) c ((S.erase 2).erase 6)) -∗ runs c k Q) -∗ runs c (exB c k) Q) := by
  unfold exB
  iintro ⟨#HE, Hp, Hr, Ha, Hpb, Hrb, Hab, T2, T6, HO⟩ Hk
  iapply (pa_take c fullShare (PA m c) (h0_lt c) (Nat.le_refl _) (Nat.le_refl _)) $$ Hp
  iintro Hp
  iapply (ra_take c fullShare (RA m c) (Nat.le_refl 2) (Nat.le_refl _) (Nat.le_refl _)) $$ Hr
  iintro Hr
  iapply (aa_fill c (AA m c) (Nat.le_refl 2) (pay1_eq fun s => by funext r k; rw [Nat.zero_add]; rfl)) $$ Ha
  iintro Ha
  iapply (pb_take c fullShare (PB m c) (bh0_lt c) (Nat.le_refl _) (Nat.le_refl _)) $$ Hpb
  iintro Hpb
  iapply (rb_take c fullShare (RB m c) (Nat.le_refl 2) (Nat.le_refl _) (Nat.le_refl _)) $$ Hrb
  iintro Hrb
  iapply (ab_fill c (AB m c) (Nat.le_refl 2) (pay2_eq fun s => by funext r k; rw [Nat.zero_add]; rfl)) $$ Hab
  iintro Hab
  ihave Ha := (Entails.of_eq (aa_cut c fullShare (AA m c) (two_A c) (si_ki c))) $$ Ha
  ihave Hab := (Entails.of_eq (ab_cut c fullShare (AB m c) (two_B c) (bsi_bki c))) $$ Hab
  icases Ha with ⟨Ha2, Ha⟩
  icases Hab with ⟨Hab2, Hab⟩
  iapply (cp2 m K c _ t2) $$ [T2 Ha2 HO]
  · isplitr; · iexact HE
    isplitl [T2]; · iexact T2
    isplitl [Ha2]; · iapply (snd2 m c); iexact Ha2
    iexact HO
  iintro ⟨T2, HO⟩
  iapply (cp6 m K c _ t6) $$ [T6 Hab2 HO]
  · isplitr; · iexact HE
    isplitl [T6]; · iexact T6
    isplitl [Hab2]; · iapply (snd6 m c); iexact Hab2
    iexact HO
  iintro ⟨T6, HO⟩
  iapply Hk
  isplitl [Hp]; · iexact Hp
  isplitl [Hr]; · iexact Hr
  isplitl [Ha]; · iexact Ha
  isplitl [Hpb]; · iexact Hpb
  isplitl [Hrb]; · iexact Hrb
  isplitl [Hab]; · iexact Hab
  isplitl [T2]; · iexact T2
  isplitl [T6]; · iexact T6
  iexact HO

/-- The sums of four computed, sent on and written to the result. -/
theorem wp_exD (P : S4x256x1024.Idx → Prop) (t3 : (3 : Fin 10) ∈ S) (t7 : (7 : Fin 10) ∈ S.erase 3) {k : PR F} {Q : PUnit → sProp 𝕄} :
    iprop(env m K ∗ gaP c fullShare (kb c) 1 (GA m c) ∗ aaP c fullShare (ki c) 1 (AA m c) ∗ gbP c fullShare (bkb c) 1 (GB m c) ∗ abP c fullShare (bki c) 1 (AB m c)
        ∗ outD m c P ∗ todo (F := F) c 3 ∗ todo (F := F) c 7 ∗ st (F := F) c S)
      ⊢ iprop(((gaP c fullShare.right (kb c) 1 (FA m) ∗ aaP c fullShare (ki c) 1 (AA m c) ∗ gbP c fullShare.right (bkb c) 1 (FB m) ∗ abP c fullShare (bki c) 1 (AB m c)
        ∗ outD m c (fun i => (P i ∨ i ∈ (so (kb c) 1 0 (kb_lt c) ho0).set) ∨ i ∈ (so (bkb c) 1 512 (bkb_lt c) ho5).set)
        ∗ sent (F := F) c 3 ∗ sent (F := F) c 7 ∗ st (F := F) c ((S.erase 3).erase 7)) -∗ runs c k Q) -∗ runs c (exD c k) Q) := by
  unfold exD
  iintro ⟨#HE, Hg, Ha, Hgb, Hab, Hout, T3, T7, HO⟩ Hk
  iapply (ga_take c fullShare (GA m c) (kb_lt c) (Nat.le_refl _) (Nat.le_refl _)) $$ Hg
  iintro Hg
  iapply (aa_take c fullShare (AA m c) (ki_lt c) (Nat.le_refl _) (Nat.le_refl _)) $$ Ha
  iintro Ha
  iapply (ga_fill c (FA m) (kb_lt c) (pay3_eq (FA_kb m c))) $$ [Hg]
  · iapply (ga_some c (GA m c)); iexact Hg
  iintro Hg
  iapply (gb_take c fullShare (GB m c) (bkb_lt c) (Nat.le_refl _) (Nat.le_refl _)) $$ Hgb
  iintro Hgb
  iapply (ab_take c fullShare (AB m c) (bki_lt c) (Nat.le_refl _) (Nat.le_refl _)) $$ Hab
  iintro Hab
  iapply (gb_fill c (FB m) (bkb_lt c) (pay4_eq (FB_bkb m c))) $$ [Hgb]
  · iapply (gb_some c (GB m c)); iexact Hgb
  iintro Hgb
  ihave Hg := (ga_halves c (FA m)) $$ Hg
  icases Hg with ⟨Hg3, Hg⟩
  ihave Hgb := (gb_halves c (FB m)) $$ Hgb
  icases Hgb with ⟨Hg7, Hgb⟩
  iapply (cp3 m K c _ t3) $$ [T3 Hg3 HO]
  · isplitr; · iexact HE
    isplitl [T3]; · iexact T3
    isplitl [Hg3]; · iapply (snd3 m c); iexact Hg3
    iexact HO
  iintro ⟨T3, HO⟩
  iapply (cp7 m K c _ t7) $$ [T7 Hg7 HO]
  · isplitr; · iexact HE
    isplitl [T7]; · iexact T7
    isplitl [Hg7]; · iapply (snd7 m c); iexact Hg7
    iexact HO
  iintro ⟨T7, HO⟩
  iapply (ga_take c fullShare.right (FA m) (kb_lt c) (Nat.le_refl _) (Nat.le_refl _)) $$ Hg
  iintro Hg
  iapply (wp_sto m c P (r := so (kb c) 1 0 (kb_lt c) ho0) (out5 m (kb_lt c))) $$ Hout
  iintro Hout
  iapply (gb_take c fullShare.right (FB m) (bkb_lt c) (Nat.le_refl _) (Nat.le_refl _)) $$ Hgb
  iintro Hgb
  iapply (wp_sto m c _ (r := so (bkb c) 1 512 (bkb_lt c) ho5) (out6 m (bkb_lt c))) $$ Hout
  iintro Hout
  iapply Hk
  isplitl [Hg]; · iexact Hg
  isplitl [Ha]; · iexact Ha
  isplitl [Hgb]; · iexact Hgb
  isplitl [Hab]; · iexact Hab
  isplitl [Hout]; · iexact Hout
  isplitl [T3]; · iexact T3
  isplitl [T7]; · iexact T7
  iexact HO

theorem rcv8 : rcvPay m c 8 = gaP c fullShare (hb0 c) 2 (FA m) := rfl
theorem rcv9 : rcvPay m c 9 = gbP c fullShare (bhb0 c) 2 (FB m) := rfl
theorem runs_ret (Q : PUnit → sProp 𝕄) : Q ⟨⟩ ⊢ runs c (.ret ⟨⟩) Q := by
  unfold runs; rw [wp_ret]; iintro H; imodintro; iexact H

theorem sb_ge : h0 c ≤ sb c ∧ sb c + 1 ≤ h0 c + 2 := by revert c; decide
theorem bsb_ge : bh0 c ≤ bsb c ∧ bsb c + 1 ≤ bh0 c + 2 := by revert c; decide

/-- Both batches kept sent on, the second written to the result. -/
theorem wp_exF (P : S4x256x1024.Idx → Prop) (t8 : (8 : Fin 10) ∈ S) (t9 : (9 : Fin 10) ∈ S.erase 8) {k : PR F} {Q : PUnit → sProp 𝕄} :
    iprop(env m K ∗ gaP c fullShare (h0 c) 2 (FA m) ∗ gbP c fullShare (bh0 c) 2 (FB m) ∗ outD m c P ∗ todo (F := F) c 8 ∗ todo (F := F) c 9 ∗ st (F := F) c S)
      ⊢ iprop(((gaP c fullShare.right (h0 c) 2 (FA m) ∗ gbP c fullShare.right (bh0 c) 2 (FB m)
        ∗ outD m c (fun i => (P i ∨ i ∈ (so (sb c) 1 0 (sb_lt c) ho0).set) ∨ i ∈ (so (bsb c) 1 512 (bsb_lt c) ho5).set)
        ∗ sent (F := F) c 8 ∗ sent (F := F) c 9 ∗ st (F := F) c ((S.erase 8).erase 9)) -∗ runs c k Q) -∗ runs c (exF c k) Q) := by
  unfold exF
  iintro ⟨#HE, Hg, Hgb, Hout, T8, T9, HO⟩ Hk
  ihave Hg := (ga_halves c (FA m)) $$ Hg
  icases Hg with ⟨Hg8, Hg⟩
  ihave Hgb := (gb_halves c (FB m)) $$ Hgb
  icases Hgb with ⟨Hg9, Hgb⟩
  iapply (cp8 m K c _ t8) $$ [T8 Hg8 HO]
  · isplitr; · iexact HE
    isplitl [T8]; · iexact T8
    isplitl [Hg8]; · iapply (snd8 m c); iexact Hg8
    iexact HO
  iintro ⟨T8, HO⟩
  iapply (cp9 m K c _ t9) $$ [T9 Hg9 HO]
  · isplitr; · iexact HE
    isplitl [T9]; · iexact T9
    isplitl [Hg9]; · iapply (snd9 m c); iexact Hg9
    iexact HO
  iintro ⟨T9, HO⟩
  iapply (ga_take c fullShare.right (FA m) (sb_lt c) (sb_ge c).1 (sb_ge c).2) $$ Hg
  iintro Hg
  iapply (wp_sto m c P (r := so (sb c) 1 0 (sb_lt c) ho0) (out5 m (sb_lt c))) $$ Hout
  iintro Hout
  iapply (gb_take c fullShare.right (FB m) (bsb_lt c) (bsb_ge c).1 (bsb_ge c).2) $$ Hgb
  iintro Hgb
  iapply (wp_sto m c _ (r := so (bsb c) 1 512 (bsb_lt c) ho5) (out6 m (bsb_lt c))) $$ Hout
  iintro Hout
  iapply Hk
  isplitl [Hg]; · iexact Hg
  isplitl [Hgb]; · iexact Hgb
  isplitl [Hout]; · iexact Hout
  isplitl [T8]; · iexact T8
  isplitl [T9]; · iexact T9
  iexact HO

/-- The other two batches come in and are written to the result. -/
theorem wp_exG (P : S4x256x1024.Idx → Prop) (s8 : ∀ i ∈ S, lvl (some (some (true, 8))) < lvl (some (some (true, i))))
    (s9 : ∀ i ∈ S, lvl (some (some (true, 9))) < lvl (some (some (true, i)))) {Q : PUnit → sProp 𝕄} :
    iprop(env m K ∗ outD m c P ∗ sent (F := F) c 8 ∗ sent (F := F) c 9 ∗ st (F := F) c S)
      ⊢ iprop(((done m c 8 ∗ done m c 9
        ∗ outD m c (fun i => (P i ∨ i ∈ (so (hb0 c) 2 0 (hb0_lt c) ho0).set) ∨ i ∈ (so (bhb0 c) 2 512 (bhb0_lt c) ho5).set)
        ∗ st (F := F) c S) -∗ Q ⟨⟩) -∗ runs c (exG c) Q) := by
  unfold exG
  iintro ⟨#HE, Hout, T8, T9, HO⟩ Hk
  iapply (wp_in m K c 8 S s8 (duo gaM (h0 c) (h0_lt c)) (duo gaM (h0 c) (h0_lt c)) rfl rfl) $$ [T8 HO]
  · isplitr; · iexact HE
    isplitl [T8]; · iexact T8
    iexact HO
  iintro ⟨D8, HO⟩
  iapply (wp_in m K c 9 S s9 (duo gbM (bh0 c) (bh0_lt c)) (duo gbM (bh0 c) (bh0_lt c)) rfl rfl) $$ [T9 HO]
  · isplitr; · iexact HE
    isplitl [T9]; · iexact T9
    iexact HO
  iintro ⟨D9, HO⟩
  unfold done
  icases D8 with ⟨F8, B8, R8⟩
  icases D9 with ⟨F9, B9, R9⟩
  ihave R8 := (Entails.of_eq (rcv8 m c)) $$ R8
  ihave R9 := (Entails.of_eq (rcv9 m c)) $$ R9
  iapply (ga_take c fullShare (FA m) (hb0_lt c) (Nat.le_refl _) (Nat.le_refl _)) $$ R8
  iintro R8
  iapply (wp_sto m c P (r := so (hb0 c) 2 0 (hb0_lt c) ho0) (out_left m (hb0_lt c))) $$ Hout
  iintro Hout
  iapply (gb_take c fullShare (FB m) (bhb0_lt c) (Nat.le_refl _) (Nat.le_refl _)) $$ R9
  iintro R9
  iapply (wp_sto m c _ (r := so (bhb0 c) 2 512 (bhb0_lt c) ho5) (out_right m (bhb0_lt c))) $$ Hout
  iintro Hout
  iapply (runs_ret c)
  iapply Hk
  isplitl [F8 B8 R8]
  · isplitl [F8]; · iexact F8
    isplitl [B8]; · iexact B8
    iapply (Entails.of_eq (rcv8 m c).symm); iexact R8
  isplitl [F9 B9 R9]
  · isplitl [F9]; · iexact F9
    isplitl [B9]; · iexact B9
    iapply (Entails.of_eq (rcv9 m c).symm); iexact R9
  isplitl [Hout]; · iexact Hout
  iexact HO

end Stages

end Cert.KernelIdeal.Run

end
-- ==== Proof.KernelIdeal.Barrier.lean ====
/-
The barrier: each neighbour is told where its copies may land, and the same is learned from both.
-/
module

public import proofs.«01_k».proof.Proof.KernelIdeal.Exchange

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Knd → ℕ)

/-- What copy `j` needs besides the place it lands at. -/
def tok (c : Dev nD) (j : Fin 10) : sProp 𝕄 :=
  iprop(dutyTok ER (sendCell c j) 0 false ∗ dutyTok ER (recvCell (peer j c) j) 0 false ∗ cred (tallyAt (recvCell c j) () (amt j))
    ∗ atPos ER (sendCell c j) 0 ∅ 0 ∗ atPos ER (recvCell c j) 0 ∅ 0)

omit [FloatOps F] in
theorem tok_todo (c : Dev nD) (j : Fin 10) : iprop(tok (F := F) c j ∗ land (F := F) (peer j c) j) ⊢ todo c j := by
  unfold tok todo
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

omit [FloatOps F] in
theorem toks_todo (c : Dev nD) : iprop((bigSep Finset.univ fun j => tok (F := F) c j) ∗ bigSep Finset.univ fun j => land (F := F) (peer j c) j)
    ⊢ bigSep Finset.univ fun j => todo (F := F) c j := by
  rw [← bigSep_sep']; exact bigSep_mono fun j _ => tok_todo (F := F) c j

/-- The copies from a neighbour to this device are those this device sends it. -/
theorem toDev_comm (c n : Dev nD) : toDev n c = toDev c n := by
  ext j; simp only [toDev, Finset.mem_filter, Finset.mem_univ, true_and]
  constructor
  · rintro rfl; exact peer_peer j n
  · rintro rfl; exact peer_peer j c

/-- Where the ten copies sent to this device land, sorted by the neighbour they come from. -/
theorem lands (c : Dev nD) : (bigSep Finset.univ fun j => land (F := F) c j) ⊢ iprop(barPay (F := F) (pr c) c ∗ barPay (F := F) (pl c) c) := by
  unfold barPay; rw [toDev_comm c (pr c), toDev_comm c (pl c)]
  exact Entails.of_eq (barPays c fun _ j => land (F := F) c j).symm

/-- The barrier. -/
theorem wp_bar (c : Dev nD) (W : Waits sig Unit) {k : PR F} {Q : PUnit → sProp 𝕄} :
    iprop(env m K ∗ dutyTok ER (barCell (pl c)) 0 false ∗ dutyTok ER (barCell (pr c)) 0 true ∗ cred (tallyAt (barCell c) () 2) ∗ atPos ER (barCell c) 0 ∅ 0
        ∗ owes (c : Thread nD τ) (O₀ c) W ∗ (bigSep Finset.univ fun j => land (F := F) c j) ∗ (bigSep Finset.univ fun j => tok (F := F) c j))
      ⊢ iprop(((semVal (barCell c) 0 ∗ (bigSep Finset.univ fun j => todo (F := F) c j) ∗ st (F := F) c Finset.univ) -∗ runs c k Q)
        -∗ runs c (Prog.op (.semSignal (Dev.tc (pl c) : Thread nD τ) barS (1#32 : BitVec 32).toInt) fun _ =>
          Prog.op (.semSignal (Dev.tc (pr c) : Thread nD τ) barS (1#32 : BitVec 32).toInt) fun _ =>
          Prog.op (.semWait barS (2#32 : BitVec 32).toInt) fun _ => k) Q) := by
  unfold env
  iintro ⟨⟨#HR, #Hlev⟩, T1, T2, Hc, Ha, HO, Hl, Ht⟩ Hk
  ihave Hl := (lands c) $$ Hl
  icases Hl with ⟨Hr, Hl⟩
  iapply (Rounds.wp_signal 𝒱₀ ER (exRd m) (c : Thread nD τ) none (dst := (pl c : Thread nD τ)) (κ := K (pl c, none))
      (d := false) (by rw [duties_bar]; exact Finset.mem_univ _) ((amount_bar m (pl c) false).trans (by decide)) () (O₁ c) rfl) $$ [HO T1 Hl]
  · isplitr; · iapply (records_inv m K (pl c, none)); iexact HR
    isplitl [HO]; · iexact HO
    isplitl [T1]; · iexact T1
    isplitl [Hl]; · rw [payload_bar, show payer (pl c) false = c from pr_pl c]; iexact Hl
    iapply (records_reached m K (pl c, none)); iexact HR
  iintro HO
  unfold O₁
  iapply (Rounds.wp_signal 𝒱₀ ER (exRd m) (c : Thread nD τ) none (dst := (pr c : Thread nD τ)) (κ := K (pr c, none))
      (d := true) (by rw [duties_bar]; exact Finset.mem_univ _) ((amount_bar m (pr c) true).trans (by decide)) () (owe c Finset.univ) rfl) $$ [HO T2 Hr]
  · isplitr; · iapply (records_inv m K (pr c, none)); iexact HR
    isplitl [HO]; · iexact HO
    isplitl [T2]; · iexact T2
    isplitl [Hr]; · rw [payload_bar, show payer (pr c) true = c from pl_pr c]; iexact Hr
    iapply (records_reached m K (pr c, none)); iexact HR
  iintro HO
  iapply (Rounds.wp_wait_rest_token 𝒱₀ ER (exRd m) (c : Thread nD τ) none (κ := K (c, none))
      (wpE_semWait_eq 𝒱₀ (c : Thread nD τ) none Set.univ) (Set.mem_univ _) () (O := owe c Finset.univ) (W := W) (R := 0) (m := 0) (T := ∅)
      (by rw [expect_bar]; decide)) $$ [Hc HO Ha]
  · isplitr; · iapply (records_inv m K (c, none)); iexact HR
    isplitl [Hc]; · iexact Hc
    isplitl [HO]; · iexact HO
    isplitr; · iapply (mayWait_owe (F := F) c (.reg barS) Finset.univ (by decide)); iexact Hlev
    iexact Ha
  iintro ⟨HO, Ha, -, Hp⟩
  ihave Hp := (Entails.of_eq ((rest_bar m c).trans (by unfold barPay; exact barPays c fun n j => land (F := F) n j))) $$ Hp
  imod (Rounds.cell_close ER (exRd m) (Set.mem_univ (K (c, none))) (fun h => h) (R := 0 + 1) (duties_later m (barCell c))) $$ [Ha] with Hz
  · isplitr; · iapply (records_inv m K (c, none)); iexact HR
    iexact Ha
  iapply Hk
  isplitl [Hz]; · iexact Hz
  isplitl [Ht Hp]
  · iapply (toks_todo (F := F) c)
    isplitl [Ht]; · iexact Ht
    iexact Hp
  · unfold st; iexists _; iexact HO

end Cert.KernelIdeal.Run

end
-- ==== Proof.KernelIdeal.Batches.lean ====
/-
The four batches: each stored, and each of its halves sent on where it is not kept.
-/
module

public import proofs.«01_k».proof.Proof.KernelIdeal.Exchange

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Knd → ℕ)

/-- An operation done only if `p`, with what it takes held only then. -/
theorem wp_opIf (c : Dev nD) (p : Prop) [Decidable p] (e : TE F PUnit) (k : PR F) (A A' R : sProp 𝕄) (j : Fin 10) (S : Finset (Fin 10)) {Q : PUnit → sProp 𝕄}
    (h : p → iprop(env m K ∗ A ∗ R ∗ st (F := F) c S) ⊢ iprop(((A' ∗ st (F := F) c (S.erase j)) -∗ runs c k Q) -∗ runs c (.op e fun _ => k) Q)) :
    iprop(env m K ∗ (if p then A else iprop(emp)) ∗ R ∗ st (F := F) c S)
      ⊢ iprop((((if p then A' else R) ∗ st (F := F) c (if p then S.erase j else S)) -∗ runs c k Q) -∗ runs c (opIf p e k) Q) := by
  unfold opIf
  by_cases hp : p
  · simp only [if_pos hp]; exact h hp
  · simp only [if_neg hp]
    iintro ⟨-, -, HR, HO⟩ Hk
    iapply Hk
    isplitl [HR]; · iexact HR
    iexact HO

/-- Whether device `c` sends its left, and its right, half of batch `b`. -/
abbrev sdA (c : Dev nD) (b : ℕ) : Prop := hb0 c ≤ b ∧ b < hb0 c + 2
abbrev sdB (c : Dev nD) (b : ℕ) : Prop := bhb0 c ≤ b ∧ b < bhb0 c + 2

section Sends
variable (c : Dev nD) (S : Finset (Fin 10)) {b : ℕ} (hb : b + 1 ≤ 4)

theorem cpA0 (h : b = hb0 c) (hS : (0 : Fin 10) ∈ S) {k : PUnit → PR F} {Q : PUnit → sProp 𝕄} :
    iprop(env m K ∗ todo (F := F) c 0 ∗ paP c fullShare b 1 (PA m c) ∗ st (F := F) c S)
      ⊢ iprop(((sent (F := F) c 0 ∗ st (F := F) c (S.erase 0)) -∗ runs c (k ⟨⟩) Q)
        -∗ runs c (.op (cp 0 (p1 c) (pl4 paM b hb) (pl2 raM 0 l01) (we4 paW hb) (we2 raW l01)) k) Q) := by subst h; exact cp0 m K c S hS
theorem cpA1 (h : b = hb0 c + 1) (hS : (1 : Fin 10) ∈ S) {k : PUnit → PR F} {Q : PUnit → sProp 𝕄} :
    iprop(env m K ∗ todo (F := F) c 1 ∗ paP c fullShare b 1 (PA m c) ∗ st (F := F) c S)
      ⊢ iprop(((sent (F := F) c 1 ∗ st (F := F) c (S.erase 1)) -∗ runs c (k ⟨⟩) Q)
        -∗ runs c (.op (cp 1 (p1 c) (pl4 paM b hb) (pl2 raM 1 l11) (we4 paW hb) (we2 raW l11)) k) Q) := by subst h; exact cp1 m K c S hS
theorem cpB0 (h : b = bhb0 c) (hS : (4 : Fin 10) ∈ S) {k : PUnit → PR F} {Q : PUnit → sProp 𝕄} :
    iprop(env m K ∗ todo (F := F) c 4 ∗ pbP c fullShare b 1 (PB m c) ∗ st (F := F) c S)
      ⊢ iprop(((sent (F := F) c 4 ∗ st (F := F) c (S.erase 4)) -∗ runs c (k ⟨⟩) Q)
        -∗ runs c (.op (cp 4 (p2 c) (pl4 pbM b hb) (pl2 rbM 0 l01) (we4 pbW hb) (we2 rbW l01)) k) Q) := by subst h; exact cp4 m K c S hS
theorem cpB1 (h : b = bhb0 c + 1) (hS : (5 : Fin 10) ∈ S) {k : PUnit → PR F} {Q : PUnit → sProp 𝕄} :
    iprop(env m K ∗ todo (F := F) c 5 ∗ pbP c fullShare b 1 (PB m c) ∗ st (F := F) c S)
      ⊢ iprop(((sent (F := F) c 5 ∗ st (F := F) c (S.erase 5)) -∗ runs c (k ⟨⟩) Q)
        -∗ runs c (.op (cp 5 (p2 c) (pl4 pbM b hb) (pl2 rbM 1 l11) (we4 pbW hb) (we2 rbW l11)) k) Q) := by subst h; exact cp5 m K c S hS

end Sends

/-- Before a batch: the planes it is stored to, and what its copies need. -/
def befA (c : Dev nD) (b : ℕ) (j : Fin 10) : sProp 𝕄 :=
  iprop((∃ f, (c : Thread nD τ).loc cc0_scratch0 ↦[slabs 4 b 1]{fullShare} f) ∗ if sdA c b then todo (F := F) c j else iprop(emp))
def befB (c : Dev nD) (b : ℕ) (j : Fin 10) : sProp 𝕄 :=
  iprop((∃ f, (c : Thread nD τ).loc cc0_scratch1 ↦[slabs 4 b 1]{fullShare} f) ∗ if sdB c b then todo (F := F) c j else iprop(emp))
/-- After it: sent, or kept. -/
def aftA (c : Dev nD) (b : ℕ) (j : Fin 10) : sProp 𝕄 := if sdA c b then sent (F := F) c j else paP c fullShare b 1 (PA m c)
def aftB (c : Dev nD) (b : ℕ) (j : Fin 10) : sProp 𝕄 := if sdB c b then sent (F := F) c j else pbP c fullShare b 1 (PB m c)
/-- The copies still owed after it. -/
def lft (c : Dev nD) (b : ℕ) (j j' : Fin 10) (S : Finset (Fin 10)) : Finset (Fin 10) :=
  if sdB c b then (if sdA c b then S.erase j else S).erase j' else if sdA c b then S.erase j else S

/-- One plane as an array of one. -/
theorem row_stack (w : FVec F S1x256x512 .bf16) (X : Pl F) (b : ℕ) (h : X b = row w) : w = stack 1 fun s => X (b + s) := by
  funext j
  have h0 : (j 0).val = 0 := by have : (j 0).val < 1 := (j 0).isLt; omega
  unfold stack; rw [h0]; show _ = X b _ _; rw [h]; exact (row_apply w j).symm

/-- A batch. -/
theorem wp_bat (c : Dev nD) (b s : ℕ) (hb : b + 1 ≤ 4) (hs : s + 1 ≤ 2) (j j' : Fin 10) (w w' : FVec F S1x256x512 .bf16) (S : Finset (Fin 10))
    (hw : PA m c b = row w) (hw' : PB m c b = row w')
    (hA : sdA c b → ∀ {k : PUnit → PR F} {Q : PUnit → sProp 𝕄}, iprop(env m K ∗ todo (F := F) c j ∗ paP c fullShare b 1 (PA m c) ∗ st (F := F) c S)
      ⊢ iprop(((sent (F := F) c j ∗ st (F := F) c (S.erase j)) -∗ runs c (k ⟨⟩) Q)
        -∗ runs c (.op (cp j (p1 c) (pl4 paM b hb) (pl2 raM s hs) (we4 paW hb) (we2 raW hs)) k) Q))
    (hB : sdB c b → ∀ (T : Finset (Fin 10)) {k : PUnit → PR F} {Q : PUnit → sProp 𝕄}, T = (if sdA c b then S.erase j else S) → iprop(env m K ∗ todo (F := F) c j' ∗ pbP c fullShare b 1 (PB m c) ∗ st (F := F) c T)
      ⊢ iprop(((sent (F := F) c j' ∗ st (F := F) c (T.erase j')) -∗ runs c (k ⟨⟩) Q)
        -∗ runs c (.op (cp j' (p2 c) (pl4 pbM b hb) (pl2 rbM s hs) (we4 pbW hb) (we2 rbW hs)) k) Q))
    {k : PR F} {Q : PUnit → sProp 𝕄} :
    iprop(env m K ∗ befA (F := F) c b j ∗ befB (F := F) c b j' ∗ st (F := F) c S)
      ⊢ iprop(((aftA m c b j ∗ aftB m c b j' ∗ st (F := F) c (lft c b j j' S)) -∗ runs c k Q) -∗ runs c (batP c b s hb hs j j' w w' k) Q) := by
  unfold batP befA befB aftA aftB lft
  iintro ⟨#HE, ⟨Ha, Ta⟩, ⟨Hb, Tb⟩, HO⟩ Hk
  iapply (pa_fill c (PA m c) hb (row_stack w _ b hw)) $$ Ha
  iintro Ha
  iapply (pb_fill c (PB m c) hb (row_stack w' _ b hw')) $$ Hb
  iintro Hb
  iapply (wp_opIf m K c (sdA c b) (cp j (p1 c) (pl4 paM b hb) (pl2 raM s hs) (we4 paW hb) (we2 raW hs))
    (opIf (sdB c b) (cp j' (p2 c) (pl4 pbM b hb) (pl2 rbM s hs) (we4 pbW hb) (we2 rbW hs)) k) (todo (F := F) c j) (sent (F := F) c j) (paP c fullShare b 1 (PA m c)) j S (fun h => hA h (k := fun _ => opIf (sdB c b) (cp j' (p2 c) (pl4 pbM b hb) (pl2 rbM s hs) (we4 pbW hb) (we2 rbW hs)) k))) $$ [Ta Ha HO]
  · isplitr; · iexact HE
    isplitl [Ta]; · iexact Ta
    isplitl [Ha]; · iexact Ha
    iexact HO
  iintro ⟨Ha, HO⟩
  iapply (wp_opIf m K c (sdB c b) (cp j' (p2 c) (pl4 pbM b hb) (pl2 rbM s hs) (we4 pbW hb) (we2 rbW hs)) k (todo (F := F) c j') (sent (F := F) c j') (pbP c fullShare b 1 (PB m c)) j' _ (fun h => hB h _ rfl (k := fun _ => k))) $$ [Tb Hb HO]
  · isplitr; · iexact HE
    isplitl [Tb]; · iexact Tb
    isplitl [Hb]; · iexact Hb
    iexact HO
  iintro ⟨Hb, HO⟩
  iapply Hk
  isplitl [Ha]; · iexact Ha
  isplitl [Hb]; · iexact Hb
  iexact HO

end Cert.KernelIdeal.Run

end
-- ==== Proof.KernelIdeal.Regroup.lean ====
/-
The exchange's buffers, whole, dealt into the planes the stages take, and gathered again.
-/
module

public import proofs.«01_k».proof.Proof.KernelIdeal.Barrier
public import proofs.«01_k».proof.Proof.KernelIdeal.Batches

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Knd → ℕ) (c : Dev nD)

/-! ## Which planes are kept -/

theorem hb0_cases : (hb0 c = 0 ∧ h0 c = 2) ∨ (hb0 c = 2 ∧ h0 c = 0) := by revert c; decide
theorem bhb0_cases : (bhb0 c = 0 ∧ bh0 c = 2) ∨ (bhb0 c = 2 ∧ bh0 c = 0) := by revert c; decide
theorem kb_cases : (kb c = h0 c ∧ sb c = h0 c + 1) ∨ (kb c = h0 c + 1 ∧ sb c = h0 c) := by revert c; decide
theorem bkb_cases : (bkb c = bh0 c ∧ bsb c = bh0 c + 1) ∨ (bkb c = bh0 c + 1 ∧ bsb c = bh0 c) := by revert c; decide

theorem all_two {h hb : ℕ} (hc : (hb = 0 ∧ h = 2) ∨ (hb = 2 ∧ h = 0)) : slabs 4 0 4 = slabs 4 h 2 ∪ slabs 4 hb 2 := by
  ext i; rw [Finset.mem_union, mem_slabs, mem_slabs, mem_slabs]; omega
theorem all_two_apart {h hb : ℕ} (hc : (hb = 0 ∧ h = 2) ∨ (hb = 2 ∧ h = 0)) : h + 2 ≤ hb ∨ hb + 2 ≤ h := by omega
theorem two_one {h k s : ℕ} (hc : (k = h ∧ s = h + 1) ∨ (k = h + 1 ∧ s = h)) : slabs 4 h 2 = slabs 4 k 1 ∪ slabs 4 s 1 := by
  ext i; rw [Finset.mem_union, mem_slabs, mem_slabs, mem_slabs]; omega
theorem two_one_apart {h k s : ℕ} (hc : (k = h ∧ s = h + 1) ∨ (k = h + 1 ∧ s = h)) : k + 1 ≤ s ∨ s + 1 ≤ k := by omega
theorem next_apart (h : ℕ) : h + 1 ≤ h + 1 ∨ h + 1 + 1 ≤ h := Or.inl (Nat.le_refl _)

/-! ## Any resources -/

/-- Elements at some contents, cut. -/
theorem some_cut {ℓ : Loc nD τ sig} {S T U : Finset (Idx ℓ)} (hU : U = S ∪ T) (hd : Disjoint S T) :
    (iprop(∃ f, ℓ ↦[U]{fullShare} f) : sProp 𝕄) ⊢ iprop((∃ f, ℓ ↦[S]{fullShare} f) ∗ ∃ f, ℓ ↦[T]{fullShare} f) := by
  iintro ⟨%f, H⟩
  ihave H := (Entails.of_eq (cut hU hd)) $$ H
  icases H with ⟨H1, H2⟩
  isplitl [H1]
  · iexists f; iexact H1
  · iexists f; iexact H2

/-- Ten resources conjoined one by one. -/
theorem ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- Two tokens dealt to the two of four planes that need them. -/
theorem deal {h hb : ℕ} (hc : (hb = 0 ∧ h = 2) ∨ (hb = 2 ∧ h = 0)) (E : ℕ → sProp 𝕄) (T U : sProp 𝕄) :
    iprop((E 0 ∗ E 1 ∗ E 2 ∗ E 3) ∗ T ∗ U) ⊢ iprop((E 0 ∗ if hb ≤ 0 ∧ 0 < hb + 2 then T else iprop(emp)) ∗ (E 1 ∗ if hb ≤ 1 ∧ 1 < hb + 2 then U else iprop(emp))
      ∗ (E 2 ∗ if hb ≤ 2 ∧ 2 < hb + 2 then T else iprop(emp)) ∗ (E 3 ∗ if hb ≤ 3 ∧ 3 < hb + 2 then U else iprop(emp))) := by
  rcases hc with ⟨rfl, rfl⟩ | ⟨rfl, rfl⟩
  · rw [if_pos (by decide), if_pos (by decide), if_neg (by decide), if_neg (by decide)]
    iintro ⟨⟨H0, H1, H2, H3⟩, T, U⟩
    isplitl [H0 T]
    · isplitl [H0] <;> iassumption
    isplitl [H1 U]
    · isplitl [H1] <;> iassumption
    isplitl [H2]
    · isplitl [H2]; · iexact H2
      iempintro
    isplitl [H3]; · iexact H3
    iempintro
  · rw [if_neg (by decide), if_neg (by decide), if_pos (by decide), if_pos (by decide)]
    iintro ⟨⟨H0, H1, H2, H3⟩, T, U⟩
    isplitl [H0]
    · isplitl [H0]; · iexact H0
      iempintro
    isplitl [H1]
    · isplitl [H1]; · iexact H1
      iempintro
    isplitl [H2 T]
    · isplitl [H2] <;> iassumption
    isplitl [H3] <;> iassumption

/-- What four planes became, sorted. -/
theorem sort {h hb : ℕ} (hc : (hb = 0 ∧ h = 2) ∨ (hb = 2 ∧ h = 0)) (E : ℕ → sProp 𝕄) (T U : sProp 𝕄) :
    iprop((if hb ≤ 0 ∧ 0 < hb + 2 then T else E 0) ∗ (if hb ≤ 1 ∧ 1 < hb + 2 then U else E 1) ∗ (if hb ≤ 2 ∧ 2 < hb + 2 then T else E 2) ∗ (if hb ≤ 3 ∧ 3 < hb + 2 then U else E 3))
      ⊢ iprop(T ∗ U ∗ E h ∗ E (h + 1)) := by
  rcases hc with ⟨rfl, rfl⟩ | ⟨rfl, rfl⟩
  · rw [if_pos (by decide), if_pos (by decide), if_neg (by decide), if_neg (by decide)]
  · rw [if_neg (by decide), if_neg (by decide), if_pos (by decide), if_pos (by decide)]
    iintro ⟨H0, H1, T, U⟩
    isplitl [T]; · iexact T
    isplitl [U]; · iexact U
    isplitl [H0] <;> iassumption

/-- Four planes, cut. -/
theorem four_cut {ℓ : Loc nD τ sig} (g : Finset (Sh 4).Idx → Finset (Idx ℓ)) (hg : ∀ S T, g (S ∪ T) = g S ∪ g T) (hd : ∀ S T, Disjoint S T → Disjoint (g S) (g T)) :
    (iprop(∃ f, ℓ ↦[g (slabs 4 0 4)]{fullShare} f) : sProp 𝕄)
      ⊢ iprop((∃ f, ℓ ↦[g (slabs 4 0 1)]{fullShare} f) ∗ (∃ f, ℓ ↦[g (slabs 4 1 1)]{fullShare} f) ∗ (∃ f, ℓ ↦[g (slabs 4 2 1)]{fullShare} f) ∗ ∃ f, ℓ ↦[g (slabs 4 3 1)]{fullShare} f) := by
  iintro H
  ihave H := (some_cut (F := F) (ℓ := ℓ) (S := g (slabs 4 0 1)) (T := g (slabs 4 1 3)) (by rw [← hg, slabs_append 4 0 1 3]) (hd _ _ (slabs_disjoint (Or.inl (Nat.le_refl _))))) $$ H
  icases H with ⟨H0, H⟩
  ihave H := (some_cut (F := F) (ℓ := ℓ) (S := g (slabs 4 1 1)) (T := g (slabs 4 2 2)) (by rw [← hg, slabs_append 4 1 1 2]) (hd _ _ (slabs_disjoint (Or.inl (Nat.le_refl _))))) $$ H
  icases H with ⟨H1, H⟩
  ihave H := (some_cut (F := F) (ℓ := ℓ) (S := g (slabs 4 2 1)) (T := g (slabs 4 3 1)) (by rw [← hg, slabs_append 4 2 1 1]) (hd _ _ (slabs_disjoint (Or.inl (Nat.le_refl _))))) $$ H
  icases H with ⟨H2, H3⟩
  isplitl [H0]; · iexact H0
  isplitl [H1]; · iexact H1
  isplitl [H2] <;> iassumption

/-! ## The batches' planes -/

/-- A whole buffer at some contents. -/
abbrev anyB (c : Dev nD) (b : Ref sig .tc) : sProp 𝕄 := iprop(∃ f : Buf (Elt F) ((c : Thread nD τ).loc b), ((c : Thread nD τ).loc b) ↦{fullShare} f)

theorem whole4 (c : Dev nD) (b : Ref sig .tc) (S : Finset (Idx ((c : Thread nD τ).loc b))) (hS : S = Finset.univ) :
    anyB (F := F) c b = iprop(∃ f, (c : Thread nD τ).loc b ↦[S]{fullShare} f) := by subst hS; rfl

theorem deal_A : iprop(anyB (F := F) c cc0_scratch0 ∗ todo (F := F) c 0 ∗ todo (F := F) c 1) ⊢ iprop(befA (F := F) c 0 0 ∗ befA (F := F) c 1 1 ∗ befA (F := F) c 2 0 ∗ befA (F := F) c 3 1) := by
  rw [whole4 c cc0_scratch0 _ (slabs_univ 4)]
  iintro ⟨H, T⟩
  iapply (deal (hb0_cases c) (fun b => iprop(∃ f, (c : Thread nD τ).loc cc0_scratch0 ↦[slabs 4 b 1]{fullShare} f)) (todo (F := F) c 0) (todo (F := F) c 1))
  isplitl [H]
  · iapply (four_cut (F := F) (ℓ := (c : Thread nD τ).loc cc0_scratch0) (fun S => S) (fun _ _ => rfl) (fun _ _ h => h)); iexact H
  iexact T
theorem deal_B : iprop(anyB (F := F) c cc0_scratch1 ∗ todo (F := F) c 4 ∗ todo (F := F) c 5) ⊢ iprop(befB (F := F) c 0 4 ∗ befB (F := F) c 1 5 ∗ befB (F := F) c 2 4 ∗ befB (F := F) c 3 5) := by
  rw [whole4 c cc0_scratch1 _ (slabs_univ 4)]
  iintro ⟨H, T⟩
  iapply (deal (bhb0_cases c) (fun b => iprop(∃ f, (c : Thread nD τ).loc cc0_scratch1 ↦[slabs 4 b 1]{fullShare} f)) (todo (F := F) c 4) (todo (F := F) c 5))
  isplitl [H]
  · iapply (four_cut (F := F) (ℓ := (c : Thread nD τ).loc cc0_scratch1) (fun S => S) (fun _ _ => rfl) (fun _ _ h => h)); iexact H
  iexact T

theorem sort_A : iprop(aftA m c 0 0 ∗ aftA m c 1 1 ∗ aftA m c 2 0 ∗ aftA m c 3 1) ⊢ iprop(sent (F := F) c 0 ∗ sent (F := F) c 1 ∗ paP c fullShare (h0 c) 2 (PA m c)) := by
  rw [pa_cut c fullShare (PA m c) (slabs_append 4 (h0 c) 1 1) (next_apart (h0 c))]
  exact sort (hb0_cases c) (fun b => paP c fullShare b 1 (PA m c)) (sent (F := F) c 0) (sent (F := F) c 1)
theorem sort_B : iprop(aftB m c 0 4 ∗ aftB m c 1 5 ∗ aftB m c 2 4 ∗ aftB m c 3 5) ⊢ iprop(sent (F := F) c 4 ∗ sent (F := F) c 5 ∗ pbP c fullShare (bh0 c) 2 (PB m c)) := by
  rw [pb_cut c fullShare (PB m c) (slabs_append 4 (bh0 c) 1 1) (next_apart (bh0 c))]
  exact sort (bhb0_cases c) (fun b => pbP c fullShare b 1 (PB m c)) (sent (F := F) c 4) (sent (F := F) c 5)

/-! ## The landing planes -/

theorem lands_intro : iprop(anyB (F := F) c cc0_scratch2 ∗ anyB (F := F) c cc0_scratch3 ∗ anyB (F := F) c cc0_scratch6 ∗ anyB (F := F) c cc0_scratch7)
    ⊢ bigSep Finset.univ fun j => land (F := F) c j := by
  rw [ten, whole4 c cc0_scratch2 _ (slabs_univ 2), whole4 c cc0_scratch3 _ (slabs_univ 2), whole4 c cc0_scratch6 _ (slabs_univ 4), whole4 c cc0_scratch7 _ (slabs_univ 4)]
  iintro ⟨Hr, Hs, Hg, Hh⟩
  ihave Hr := (some_cut (F := F) (slabs_append 2 0 1 1) (slabs_disjoint (Or.inl (Nat.le_refl _)))) $$ Hr
  ihave Hs := (some_cut (F := F) (slabs_append 2 0 1 1) (slabs_disjoint (Or.inl (Nat.le_refl _)))) $$ Hs
  ihave Hg := (some_cut (F := F) (all_two (hb0_cases c)) (slabs_disjoint (all_two_apart (hb0_cases c)))) $$ Hg
  ihave Hh := (some_cut (F := F) (all_two (bhb0_cases c)) (slabs_disjoint (all_two_apart (bhb0_cases c)))) $$ Hh
  icases Hr with ⟨R0, R1⟩
  icases Hs with ⟨S0, S1⟩
  icases Hg with ⟨Hg, G8⟩
  icases Hh with ⟨Hh, G9⟩
  ihave Hg := (some_cut (F := F) (two_one (kb_cases c)) (slabs_disjoint (two_one_apart (kb_cases c)))) $$ Hg
  ihave Hh := (some_cut (F := F) (two_one (bkb_cases c)) (slabs_disjoint (two_one_apart (bkb_cases c)))) $$ Hh
  icases Hg with ⟨G2, G3⟩
  icases Hh with ⟨G6, G7⟩
  unfold land raE rbE gaE gbE
  isplitl [R0]; · iexact R0
  isplitl [R1]; · iexact R1
  isplitl [G2]; · iexact G2
  isplitl [G3]; · iexact G3
  isplitl [S0]; · iexact S0
  isplitl [S1]; · iexact S1
  isplitl [G6]; · iexact G6
  isplitl [G7]; · iexact G7
  isplitl [G8] <;> iassumption

/-! ## Whole again -/

theorem pa_back : iprop(paP c fullShare (h0 c) 2 (PA m c) ∗ sndPay m c 0 ∗ sndPay m c 1) ⊢ anyB (F := F) c cc0_scratch0 := by
  have e : iprop(sndPay m c 0 ∗ sndPay m c 1) = paP c fullShare (hb0 c) 2 (PA m c) := (pa_cut c fullShare (PA m c) (slabs_append 4 (hb0 c) 1 1) (next_apart (hb0 c))).symm
  rw [e, ← pa_cut c fullShare (PA m c) (all_two (hb0_cases c)) (all_two_apart (hb0_cases c)), whole4 c cc0_scratch0 _ (slabs_univ 4)]
  unfold paP
  iintro H; iexists _; iexact H
theorem pb_back : iprop(pbP c fullShare (bh0 c) 2 (PB m c) ∗ sndPay m c 4 ∗ sndPay m c 5) ⊢ anyB (F := F) c cc0_scratch1 := by
  have e : iprop(sndPay m c 4 ∗ sndPay m c 5) = pbP c fullShare (bhb0 c) 2 (PB m c) := (pb_cut c fullShare (PB m c) (slabs_append 4 (bhb0 c) 1 1) (next_apart (bhb0 c))).symm
  rw [e, ← pb_cut c fullShare (PB m c) (all_two (bhb0_cases c)) (all_two_apart (bhb0_cases c)), whole4 c cc0_scratch1 _ (slabs_univ 4)]
  unfold pbP
  iintro H; iexists _; iexact H
theorem ra_in : iprop(rcvPay m c 0 ∗ rcvPay m c 1) ⊢ raP c fullShare 0 2 (RA m c) := Entails.of_eq (ra_cut c fullShare (RA m c) (slabs_append 2 0 1 1) (next_apart 0)).symm
theorem ra_back : raP c fullShare 0 2 (RA m c) ⊢ anyB (F := F) c cc0_scratch2 := by
  rw [whole4 c cc0_scratch2 _ (slabs_univ 2)]; unfold raP
  iintro H; iexists _; iexact H
theorem rb_in : iprop(rcvPay m c 4 ∗ rcvPay m c 5) ⊢ rbP c fullShare 0 2 (RB m c) := Entails.of_eq (rb_cut c fullShare (RB m c) (slabs_append 2 0 1 1) (next_apart 0)).symm
theorem rb_back : rbP c fullShare 0 2 (RB m c) ⊢ anyB (F := F) c cc0_scratch3 := by
  rw [whole4 c cc0_scratch3 _ (slabs_univ 2)]; unfold rbP
  iintro H; iexists _; iexact H
theorem aa_back : iprop(sndPay m c 2 ∗ aaP c fullShare (ki c) 1 (AA m c)) ⊢ anyB (F := F) c cc0_scratch4 := by
  refine (Entails.of_eq (aa_cut c fullShare (AA m c) (two_A c) (si_ki c)).symm).trans ?_
  rw [whole4 c cc0_scratch4 _ (slabs_univ 2)]; unfold aaP
  iintro H; iexists _; iexact H
theorem ab_back : iprop(sndPay m c 6 ∗ abP c fullShare (bki c) 1 (AB m c)) ⊢ anyB (F := F) c cc0_scratch5 := by
  refine (Entails.of_eq (ab_cut c fullShare (AB m c) (two_B c) (bsi_bki c)).symm).trans ?_
  rw [whole4 c cc0_scratch5 _ (slabs_univ 2)]; unfold abP
  iintro H; iexists _; iexact H
theorem ga_two : iprop(sndPay m c 3 ∗ gaP c fullShare.right (kb c) 1 (FA m) ∗ rcvPay m c 3) ⊢ gaP c fullShare (h0 c) 2 (FA m) := by
  rw [show sndPay m c 3 = gaP c fullShare.left (kb c) 1 (FA m) from rfl, show rcvPay m c 3 = gaP c fullShare (sb c) 1 (FA m) from rfl, ga_cut c fullShare (FA m) (two_one (kb_cases c)) (two_one_apart (kb_cases c))]
  iintro ⟨H1, H2, H3⟩
  isplitl [H1 H2]
  · iapply (ga_full c (FA m))
    isplitl [H1]; · iexact H1
    iexact H2
  iexact H3
theorem ga_back : iprop(sndPay m c 8 ∗ gaP c fullShare.right (h0 c) 2 (FA m) ∗ rcvPay m c 8) ⊢ anyB (F := F) c cc0_scratch6 := by
  have e : iprop(sndPay m c 8 ∗ gaP c fullShare.right (h0 c) 2 (FA m) ∗ rcvPay m c 8) ⊢ gaP c fullShare 0 4 (FA m) := by
    rw [show sndPay m c 8 = gaP c fullShare.left (h0 c) 2 (FA m) from rfl, show rcvPay m c 8 = gaP c fullShare (hb0 c) 2 (FA m) from rfl, ga_cut c fullShare (FA m) (all_two (hb0_cases c)) (all_two_apart (hb0_cases c))]
    iintro ⟨H1, H2, H3⟩
    isplitl [H1 H2]
    · iapply (ga_full c (FA m))
      isplitl [H1]; · iexact H1
      iexact H2
    iexact H3
  refine e.trans ?_
  rw [whole4 c cc0_scratch6 _ (slabs_univ 4)]; unfold gaP
  iintro H; iexists _; iexact H
theorem gb_two : iprop(sndPay m c 7 ∗ gbP c fullShare.right (bkb c) 1 (FB m) ∗ rcvPay m c 7) ⊢ gbP c fullShare (bh0 c) 2 (FB m) := by
  rw [show sndPay m c 7 = gbP c fullShare.left (bkb c) 1 (FB m) from rfl, show rcvPay m c 7 = gbP c fullShare (bsb c) 1 (FB m) from rfl, gb_cut c fullShare (FB m) (two_one (bkb_cases c)) (two_one_apart (bkb_cases c))]
  iintro ⟨H1, H2, H3⟩
  isplitl [H1 H2]
  · iapply (gb_full c (FB m))
    isplitl [H1]; · iexact H1
    iexact H2
  iexact H3
theorem gb_back : iprop(sndPay m c 9 ∗ gbP c fullShare.right (bh0 c) 2 (FB m) ∗ rcvPay m c 9) ⊢ anyB (F := F) c cc0_scratch7 := by
  have e : iprop(sndPay m c 9 ∗ gbP c fullShare.right (bh0 c) 2 (FB m) ∗ rcvPay m c 9) ⊢ gbP c fullShare 0 4 (FB m) := by
    rw [show sndPay m c 9 = gbP c fullShare.left (bh0 c) 2 (FB m) from rfl, show rcvPay m c 9 = gbP c fullShare (bhb0 c) 2 (FB m) from rfl, gb_cut c fullShare (FB m) (all_two (bhb0_cases c)) (all_two_apart (bhb0_cases c))]
    iintro ⟨H1, H2, H3⟩
    isplitl [H1 H2]
    · iapply (gb_full c (FB m))
      isplitl [H1]; · iexact H1
      iexact H2
    iexact H3
  refine e.trans ?_
  rw [whole4 c cc0_scratch7 _ (slabs_univ 4)]; unfold gbP
  iintro H; iexists _; iexact H

end Cert.KernelIdeal.Run

end
-- ==== Proof.KernelIdeal.Printed.lean ====
/-
The printed body of the kernel is the program of `Program`.
-/
module

public import proofs.«01_k».proof.Proof.KernelIdeal.Program
import Mathlib.Tactic.FinCases

@[expose] public section

noncomputable section

namespace Cert.KernelIdeal.Run

open Cert.KernelIdeal Cert.KernelIdeal.Gen Cert.Planes

open Idealize.ShloMosaic
open Idealize.ShloMosaic.TcCoe
open Idealize.SL.Sem

variable {F : FTy → Type} [FloatOps F]

abbrev wM0 : Memref sig .tc .vmem S4x256x1024 .bf16 := Memref.whole cc0_stg0_0
abbrev wM1 : Memref sig .tc .vmem S1024x1024 .bf16 := Memref.whole cc0_stg1_0
abbrev wM2 : Memref sig .tc .vmem S1024x1024 .bf16 := Memref.whole cc0_stg2_0
abbrev wM3 : Memref sig .tc .vmem S1024x1024 .bf16 := Memref.whole cc0_stg3_0
abbrev wM4 : Memref sig .tc .vmem S1024x1024 .bf16 := Memref.whole cc0_stg4_0

/-- A whole weight, and the whole input, read. -/
abbrev ldm (M : Memref sig .tc .vmem S1024x1024 .bf16) : TE F (Vec F S1024x1024 .bf16) :=
  .load M (Rect.unit (s := S1024x1024) ![0, 0] S1024x1024.size inb_S1024x1024_S1024x1024_0_0).toLoadRect (View.loadsAt_vmem h_S1024x1024)
abbrev ldx : TE F (Vec F S4x256x1024 .bf16) :=
  .load wM0 (Rect.unit (s := S4x256x1024) ![0, 0, 0] S4x256x1024.size inb_S4x256x1024_S4x256x1024_0_0_0).toLoadRect (View.loadsAt_vmem h_S4x256x1024)

/-- The kernel's body: the barrier, the inputs, the batches and the exchange. -/
def bodyP : PR F :=
  Prog.op .deviceId fun c =>
  Prog.op (.semSignal (Dev.tc (pl c) : Thread nD τ) barS (1#32 : BitVec 32).toInt) fun _ =>
  Prog.op (.semSignal (Dev.tc (pr c) : Thread nD τ) barS (1#32 : BitVec 32).toInt) fun _ =>
  Prog.op (.semWait barS (2#32 : BitVec 32).toInt) fun _ =>
  Prog.op (ldm wM1) fun wq => Prog.op (ldm wM3) fun wk => Prog.op (ldm wM4) fun wv => Prog.op (ldm wM2) fun wo => Prog.op ldx fun x =>
  mainP c x wq wo wk wv

theorem op_congr {α : Type} {e e' : TE F α} {k k' : α → PR F} (he : e = e') (hk : ∀ a, k a = k' a) : Prog.op e k = Prog.op e' k' := by
  rw [he, funext hk]

set_option maxHeartbeats 4000000 in
set_option maxRecDepth 65536 in
theorem body_eq : cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 = bodyP := by
  rw [cc0_body_eq_skeleton]
  unfold cc0_body_skel bodyP
  simp (config := {zeta := false}) only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part41_skel
  simp (config := {zeta := false}) only [semSignalWord, semWaitWord, Prog.lift, Prog.bind_op, Prog.bind_ret, Prog.pure_eq_ret]
  refine op_congr rfl fun c => ?_
  refine op_congr (by rw [dev1_eq]) fun _ => ?_
  refine op_congr (by rw [dev2_eq]) fun _ => ?_
  refine op_congr rfl fun _ => ?_
  refine op_congr rfl fun wq => op_congr rfl fun wk => op_congr rfl fun wv => op_congr rfl fun wo => op_congr rfl fun x => ?_
  have hc : ∀ c : Fin 4, c = 0 ∨ c = 1 ∨ c = 2 ∨ c = 3 := by decide
  rcases hc c with rfl | rfl | rfl | rfl <;>
    (simp (config := {decide := true}) only [k0_part44_skel, k0_part46_skel, k0_part49_skel, ↓reduceDIte, Prog.lift, Prog.bind_op, Prog.bind_ret, Prog.pure_eq_ret]
     rfl)

end Cert.KernelIdeal.Run

end
-- ==== Proof.KernelIdeal.Stages.lean ====
/-
The exchange from the stored batches to the result: the stages run one after another.
-/
module

public import proofs.«01_k».proof.Proof.KernelIdeal.Exchange
public import proofs.«01_k».proof.Proof.KernelIdeal.Regroup
public import proofs.«01_k».proof.Proof.KernelIdeal.Printed

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Knd → ℕ) (c : Dev nD)

/-- Eight whole buffers at some contents: the exchange's. -/
def scr (c : Dev nD) : sProp 𝕄 :=
  iprop(anyB (F := F) c cc0_scratch0 ∗ anyB (F := F) c cc0_scratch1 ∗ anyB (F := F) c cc0_scratch2 ∗ anyB (F := F) c cc0_scratch3
    ∗ anyB (F := F) c cc0_scratch4 ∗ anyB (F := F) c cc0_scratch5 ∗ anyB (F := F) c cc0_scratch6 ∗ anyB (F := F) c cc0_scratch7)

/-! ## The result is written everywhere -/

/-- The parts of the result written once four sums are made; once the second batch is in; and at the end. -/
abbrev wrD (c : Dev nD) (i : S4x256x1024.Idx) : Prop := (False ∨ i ∈ (so (kb c) 1 0 (kb_lt c) ho0).set) ∨ i ∈ (so (bkb c) 1 512 (bkb_lt c) ho5).set
abbrev wrF (c : Dev nD) (i : S4x256x1024.Idx) : Prop := (wrD c i ∨ i ∈ (so (sb c) 1 0 (sb_lt c) ho0).set) ∨ i ∈ (so (bsb c) 1 512 (bsb_lt c) ho5).set
abbrev wrG (c : Dev nD) (i : S4x256x1024.Idx) : Prop := (wrF c i ∨ i ∈ (so (hb0 c) 2 0 (hb0_lt c) ho0).set) ∨ i ∈ (so (bhb0 c) 2 512 (bhb0_lt c) ho5).set

theorem mem_so {b n o : ℕ} (h : b + n ≤ 4) (ho : o + 512 ≤ 1024) (i : S4x256x1024.Idx) (h0 : b ≤ (i 0).val) (h0' : (i 0).val < b + n) (h2 : o ≤ (i 2).val) (h2' : (i 2).val < o + 512) :
    i ∈ (so b n o h ho).set := by
  rw [so, Rect.mem_set_unit]; intro a
  have h1 : (i 1).val < 256 := (i 1).isLt
  fin_cases a
  · exact ⟨h0, h0'⟩
  · exact ⟨Nat.zero_le _, by simpa using h1⟩
  · exact ⟨h2, h2'⟩

theorem wrG_all (i : S4x256x1024.Idx) : wrG c i := by
  have h0 : (i 0).val < 4 := (i 0).isLt
  have h2 : (i 2).val < 1024 := (i 2).isLt
  rcases Nat.lt_or_ge (i 2).val 512 with h | h
  · by_cases e : hb0 c ≤ (i 0).val ∧ (i 0).val < hb0 c + 2
    · exact Or.inl (Or.inr (mem_so _ _ i e.1 e.2 (Nat.zero_le _) (by omega)))
    · by_cases e' : (i 0).val = kb c
      · exact Or.inl (Or.inl (Or.inl (Or.inl (Or.inl (Or.inr (mem_so _ _ i (by omega) (by omega) (Nat.zero_le _) (by omega)))))))
      · have h1 := hb0_cases c; have h2 := kb_cases c
        exact Or.inl (Or.inl (Or.inl (Or.inr (mem_so _ _ i (by omega) (by omega) (Nat.zero_le _) (by omega)))))
  · by_cases e : bhb0 c ≤ (i 0).val ∧ (i 0).val < bhb0 c + 2
    · exact Or.inr (mem_so _ _ i e.1 e.2 h (by omega))
    · by_cases e' : (i 0).val = bkb c
      · exact Or.inl (Or.inl (Or.inl (Or.inl (Or.inr (mem_so _ _ i (by omega) (by omega) h (by omega))))))
      · have h1 := bhb0_cases c; have h2 := bkb_cases c
        exact Or.inl (Or.inl (Or.inr (mem_so _ _ i (by omega) (by omega) h (by omega))))

/-- Written everywhere, the result is what it should be. -/
theorem outD_all (P : S4x256x1024.Idx → Prop) (h : ∀ i, P i) : outD m c P ⊢ ((c : Thread nD τ).loc cc0_stg5_0 ↦{fullShare} (OUT m : S4x256x1024.Idx → Elt F .bf16)) := by
  unfold outD
  iintro ⟨%f, %hf, H⟩
  obtain rfl : f = OUT m := funext fun i => hf i (h i)
  iexact H

/-! ## The stages -/

/-- The copies after the batches' own. -/
abbrev later : Finset (Fin 10) := {2, 3, 6, 7, 8, 9}

set_option maxHeartbeats 4000000 in
/-- The exchange. -/
theorem wp_exP {Q : PUnit → sProp 𝕄} :
    iprop(env m K ∗ (aftA m c 0 0 ∗ aftA m c 1 1 ∗ aftA m c 2 0 ∗ aftA m c 3 1) ∗ (aftB m c 0 4 ∗ aftB m c 1 5 ∗ aftB m c 2 4 ∗ aftB m c 3 5)
        ∗ anyB (F := F) c cc0_scratch4 ∗ anyB (F := F) c cc0_scratch5
        ∗ todo (F := F) c 2 ∗ todo (F := F) c 3 ∗ todo (F := F) c 6 ∗ todo (F := F) c 7 ∗ todo (F := F) c 8 ∗ todo (F := F) c 9
        ∗ outD m c (fun _ => False) ∗ st (F := F) c later)
      ⊢ iprop((((bigSep Finset.univ fun j => fin (F := F) c j) ∗ st (F := F) c ∅ ∗ scr (F := F) c
          ∗ ((c : Thread nD τ).loc cc0_stg5_0 ↦{fullShare} (OUT m : S4x256x1024.Idx → Elt F .bf16))) -∗ Q ⟨⟩) -∗ runs c (exP c) Q) := by
  rw [ten, whole4 c cc0_scratch4 _ (slabs_univ 2), whole4 c cc0_scratch5 _ (slabs_univ 2)]
  unfold exP
  iintro ⟨#HE, HA, HB, Haa, Hab, T2, T3, T6, T7, T8, T9, Hout, HO⟩ Hk
  ihave HA := (sort_A m c) $$ HA
  ihave HB := (sort_B m c) $$ HB
  icases HA with ⟨S0, S1, Hpa⟩
  icases HB with ⟨S4, S5, Hpb⟩
  iapply (wp_exA m K c later (by decide) (by decide) (by decide) (by decide) (k := exB c <| exC c <| exD c <| exE c <| exF c <| exG c)) $$ [S0 S4 S1 S5 HO]
  · isplitr; · iexact HE
    isplitl [S0]; · iexact S0
    isplitl [S4]; · iexact S4
    isplitl [S1]; · iexact S1
    isplitl [S5]; · iexact S5
    iexact HO
  unfold done
  iintro ⟨⟨F0, A0, R0⟩, ⟨F4, B0, R4⟩, ⟨F1, A1, R1⟩, ⟨F5, B1, R5⟩, HO⟩
  ihave Hra := (ra_in m c) $$ [R0 R1]
  · isplitl [R0]; · iexact R0
    iexact R1
  ihave Hrb := (rb_in m c) $$ [R4 R5]
  · isplitl [R4]; · iexact R4
    iexact R5
  iapply (wp_exB m K c later (by decide) (by decide) (k := exC c <| exD c <| exE c <| exF c <| exG c)) $$ [Hpa Hra Haa Hpb Hrb Hab T2 T6 HO]
  · isplitr; · iexact HE
    isplitl [Hpa]; · iexact Hpa
    isplitl [Hra]; · iexact Hra
    isplitl [Haa]; · iexact Haa
    isplitl [Hpb]; · iexact Hpb
    isplitl [Hrb]; · iexact Hrb
    isplitl [Hab]; · iexact Hab
    isplitl [T2]; · iexact T2
    isplitl [T6]; · iexact T6
    iexact HO
  iintro ⟨Hpa, Hra, Haa, Hpb, Hrb, Hab, S2, S6, HO⟩
  iapply (wp_exC m K c ((later.erase 2).erase 6) (by decide) (by decide) (k := exD c <| exE c <| exF c <| exG c)) $$ [S2 S6 HO]
  · isplitr; · iexact HE
    isplitl [S2]; · iexact S2
    isplitl [S6]; · iexact S6
    iexact HO
  unfold done
  iintro ⟨⟨F2, A2, R2⟩, ⟨F6, B2, R6⟩, HO⟩
  iapply (wp_exD m K c ((later.erase 2).erase 6) (fun _ => False) (by decide) (by decide) (k := exE c <| exF c <| exG c)) $$ [R2 Haa R6 Hab Hout T3 T7 HO]
  · isplitr; · iexact HE
    isplitl [R2]; · iapply (Entails.of_eq (show rcvPay m c 2 = gaP c fullShare (kb c) 1 (GA m c) from rfl)); iexact R2
    isplitl [Haa]; · iexact Haa
    isplitl [R6]; · iapply (Entails.of_eq (show rcvPay m c 6 = gbP c fullShare (bkb c) 1 (GB m c) from rfl)); iexact R6
    isplitl [Hab]; · iexact Hab
    isplitl [Hout]; · iexact Hout
    isplitl [T3]; · iexact T3
    isplitl [T7]; · iexact T7
    iexact HO
  iintro ⟨Hga, Haa, Hgb, Hab, Hout, S3, S7, HO⟩
  iapply (wp_exE m K c ((((later.erase 2).erase 6).erase 3).erase 7) (by decide) (by decide) (k := exF c <| exG c)) $$ [S3 S7 HO]
  · isplitr; · iexact HE
    isplitl [S3]; · iexact S3
    isplitl [S7]; · iexact S7
    iexact HO
  unfold done
  iintro ⟨⟨F3, A3, R3⟩, ⟨F7, B3, R7⟩, HO⟩
  ihave Hga := (ga_two m c) $$ [A3 Hga R3]
  · isplitl [A3]; · iexact A3
    isplitl [Hga]; · iexact Hga
    iexact R3
  ihave Hgb := (gb_two m c) $$ [B3 Hgb R7]
  · isplitl [B3]; · iexact B3
    isplitl [Hgb]; · iexact Hgb
    iexact R7
  iapply (wp_exF m K c ((((later.erase 2).erase 6).erase 3).erase 7) (wrD c) (by decide) (by decide) (k := exG c)) $$ [Hga Hgb Hout T8 T9 HO]
  · isplitr; · iexact HE
    isplitl [Hga]; · iexact Hga
    isplitl [Hgb]; · iexact Hgb
    isplitl [Hout]; · iexact Hout
    isplitl [T8]; · iexact T8
    isplitl [T9]; · iexact T9
    iexact HO
  iintro ⟨Hga, Hgb, Hout, S8, S9, HO⟩
  iapply (wp_exG m K c ((((((later.erase 2).erase 6).erase 3).erase 7).erase 8).erase 9) (wrF c) (by decide) (by decide)) $$ [Hout S8 S9 HO]
  · isplitr; · iexact HE
    isplitl [Hout]; · iexact Hout
    isplitl [S8]; · iexact S8
    isplitl [S9]; · iexact S9
    iexact HO
  unfold done
  iintro ⟨⟨F8, A8, R8⟩, ⟨F9, B8, R9⟩, Hout, HO⟩
  iapply Hk
  isplitl [F0 F1 F2 F3 F4 F5 F6 F7 F8 F9]
  · isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    iexact F9
  isplitl [HO]; · iapply (Entails.of_eq (congrArg (st (F := F) c) (show (((((later.erase 2).erase 6).erase 3).erase 7).erase 8).erase 9 = ∅ by decide))); iexact HO
  isplitl [A0 A1 Hpa B0 B1 Hpb Hra Hrb A2 Haa B2 Hab A8 Hga R8 B8 Hgb R9]
  · unfold scr
    isplitl [Hpa A0 A1]
    · iapply (pa_back m c)
      isplitl [Hpa]; · iexact Hpa
      isplitl [A0]; · iexact A0
      iexact A1
    isplitl [Hpb B0 B1]
    · iapply (pb_back m c)
      isplitl [Hpb]; · iexact Hpb
      isplitl [B0]; · iexact B0
      iexact B1
    isplitl [Hra]; · iapply (ra_back m c); iexact Hra
    isplitl [Hrb]; · iapply (rb_back m c); iexact Hrb
    isplitl [A2 Haa]
    · iapply (aa_back m c)
      isplitl [A2]; · iexact A2
      iexact Haa
    isplitl [B2 Hab]
    · iapply (ab_back m c)
      isplitl [B2]; · iexact B2
      iexact Hab
    isplitl [A8 Hga R8]
    · iapply (ga_back m c)
      isplitl [A8]; · iexact A8
      isplitl [Hga]; · iexact Hga
      iexact R8
    · iapply (gb_back m c)
      isplitl [B8]; · iexact B8
      isplitl [Hgb]; · iexact Hgb
      iexact R9
  iapply (outD_all m c (wrG c) (wrG_all c)); iexact Hout

end Cert.KernelIdeal.Run

end
-- ==== Proof.KernelIdeal.Body.lean ====
/-
The kernel's body on one device: from the buffers it starts with to the result.
-/
module

public import proofs.«01_k».proof.Proof.KernelIdeal.Stages

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Knd → ℕ) (c : Dev nD)

/-- The five inputs, staged. -/
def ins (c : Dev nD) : sProp 𝕄 :=
  iprop(((c : Thread nD τ).loc cc0_stg0_0 ↦{fullShare} (xin m c : S4x256x1024.Idx → Elt F .bf16))
    ∗ ((c : Thread nD τ).loc cc0_stg1_0 ↦{fullShare} (wqin m c : S1024x1024.Idx → Elt F .bf16))
    ∗ ((c : Thread nD τ).loc cc0_stg2_0 ↦{fullShare} (woin m c : S1024x1024.Idx → Elt F .bf16))
    ∗ ((c : Thread nD τ).loc cc0_stg3_0 ↦{fullShare} (wkin m c : S1024x1024.Idx → Elt F .bf16))
    ∗ ((c : Thread nD τ).loc cc0_stg4_0 ↦{fullShare} (wvin m c : S1024x1024.Idx → Elt F .bf16)))

theorem hz2 : (![0, 0] : Fin 2 → ℕ) = fun _ => 0 := by funext a; fin_cases a <;> rfl
theorem hz3 : (![0, 0, 0] : Fin 3 → ℕ) = fun _ => 0 := by funext a; fin_cases a <;> rfl

/-! ## The inputs read -/

abbrev rW : Rect S1024x1024 := Rect.unit (s := S1024x1024) ![0, 0] S1024x1024.size inb_S1024x1024_S1024x1024_0_0
abbrev rX : Rect S4x256x1024 := Rect.unit (s := S4x256x1024) ![0, 0, 0] S4x256x1024.size inb_S4x256x1024_S4x256x1024_0_0_0

theorem wp_wq {k : Vec F S1024x1024 .bf16 → PR F} {Q : PUnit → sProp 𝕄} (f : S1024x1024.Idx → Elt F .bf16) :
    ((c : Thread nD τ).loc cc0_stg1_0 ↦{fullShare} f : sProp 𝕄) ⊢ iprop((((c : Thread nD τ).loc cc0_stg1_0 ↦{fullShare} f) -∗ runs c (k f) Q) -∗ runs c (.op (ldm wM1) k) Q) :=
  wp_take c (M := wM1) (r := rW) (S := Finset.univ) f (Finset.subset_univ _) (Memref.read_access_unit_zero (Elt F) cc0_stg1_0 hz2 inb_S1024x1024_S1024x1024_0_0 f)
theorem wp_wo {k : Vec F S1024x1024 .bf16 → PR F} {Q : PUnit → sProp 𝕄} (f : S1024x1024.Idx → Elt F .bf16) :
    ((c : Thread nD τ).loc cc0_stg2_0 ↦{fullShare} f : sProp 𝕄) ⊢ iprop((((c : Thread nD τ).loc cc0_stg2_0 ↦{fullShare} f) -∗ runs c (k f) Q) -∗ runs c (.op (ldm wM2) k) Q) :=
  wp_take c (M := wM2) (r := rW) (S := Finset.univ) f (Finset.subset_univ _) (Memref.read_access_unit_zero (Elt F) cc0_stg2_0 hz2 inb_S1024x1024_S1024x1024_0_0 f)
theorem wp_wk {k : Vec F S1024x1024 .bf16 → PR F} {Q : PUnit → sProp 𝕄} (f : S1024x1024.Idx → Elt F .bf16) :
    ((c : Thread nD τ).loc cc0_stg3_0 ↦{fullShare} f : sProp 𝕄) ⊢ iprop((((c : Thread nD τ).loc cc0_stg3_0 ↦{fullShare} f) -∗ runs c (k f) Q) -∗ runs c (.op (ldm wM3) k) Q) :=
  wp_take c (M := wM3) (r := rW) (S := Finset.univ) f (Finset.subset_univ _) (Memref.read_access_unit_zero (Elt F) cc0_stg3_0 hz2 inb_S1024x1024_S1024x1024_0_0 f)
theorem wp_wv {k : Vec F S1024x1024 .bf16 → PR F} {Q : PUnit → sProp 𝕄} (f : S1024x1024.Idx → Elt F .bf16) :
    ((c : Thread nD τ).loc cc0_stg4_0 ↦{fullShare} f : sProp 𝕄) ⊢ iprop((((c : Thread nD τ).loc cc0_stg4_0 ↦{fullShare} f) -∗ runs c (k f) Q) -∗ runs c (.op (ldm wM4) k) Q) :=
  wp_take c (M := wM4) (r := rW) (S := Finset.univ) f (Finset.subset_univ _) (Memref.read_access_unit_zero (Elt F) cc0_stg4_0 hz2 inb_S1024x1024_S1024x1024_0_0 f)
theorem wp_x {k : Vec F S4x256x1024 .bf16 → PR F} {Q : PUnit → sProp 𝕄} (f : S4x256x1024.Idx → Elt F .bf16) :
    ((c : Thread nD τ).loc cc0_stg0_0 ↦{fullShare} f : sProp 𝕄) ⊢ iprop((((c : Thread nD τ).loc cc0_stg0_0 ↦{fullShare} f) -∗ runs c (k f) Q) -∗ runs c (.op ldx k) Q) :=
  wp_take c (M := wM0) (r := rX) (S := Finset.univ) f (Finset.subset_univ _) (Memref.read_access_unit_zero (Elt F) cc0_stg0_0 hz3 inb_S4x256x1024_S4x256x1024_0_0_0 f)

/-! ## The copies owed after each batch -/

abbrev o1 (c : Dev nD) : Finset (Fin 10) := lft c 0 0 4 Finset.univ
abbrev o2 (c : Dev nD) : Finset (Fin 10) := lft c 1 1 5 (o1 c)
abbrev o3 (c : Dev nD) : Finset (Fin 10) := lft c 2 0 4 (o2 c)
abbrev o4 (c : Dev nD) : Finset (Fin 10) := lft c 3 1 5 (o3 c)

theorem o4_eq : o4 c = later := by revert c; decide

set_option maxHeartbeats 4000000 in
/-- The batches and the exchange, the inputs read. -/
theorem wp_main {Q : PUnit → sProp 𝕄} :
    iprop(env m K ∗ anyB (F := F) c cc0_scratch0 ∗ anyB (F := F) c cc0_scratch1 ∗ anyB (F := F) c cc0_scratch4 ∗ anyB (F := F) c cc0_scratch5
        ∗ (bigSep Finset.univ fun j => todo (F := F) c j) ∗ outD m c (fun _ => False) ∗ st (F := F) c Finset.univ)
      ⊢ iprop((((bigSep Finset.univ fun j => fin (F := F) c j) ∗ st (F := F) c ∅ ∗ scr (F := F) c
          ∗ ((c : Thread nD τ).loc cc0_stg5_0 ↦{fullShare} (OUT m : S4x256x1024.Idx → Elt F .bf16))) -∗ Q ⟨⟩)
        -∗ runs c (mainP c (xin m c) (wqin m c) (woin m c) (wkin m c) (wvin m c)) Q) := by
  unfold mainP
  rw [ten fun j => todo (F := F) c j]
  iintro ⟨#HE, Hpa, Hpb, Haa, Hab, ⟨T0, T1, T2, T3, T4, T5, T6, T7, T8, T9⟩, Hout, HO⟩ Hk
  ihave HA := (deal_A (F := F) c) $$ [Hpa T0 T1]
  · isplitl [Hpa]; · iexact Hpa
    isplitl [T0] <;> iassumption
  ihave HB := (deal_B (F := F) c) $$ [Hpb T4 T5]
  · isplitl [Hpb]; · iexact Hpb
    isplitl [T4] <;> iassumption
  icases HA with ⟨A0, A1, A2, A3⟩
  icases HB with ⟨B0, B1, B2, B3⟩
  iapply (wp_bat m K c 0 0 b0 l01 0 4 _ _ Finset.univ rfl rfl (fun h => cpA0 m K c _ b0 (by revert h; revert c; decide) (by revert h; revert c; decide))
    (fun h T {_ _} e => cpB0 m K c T b0 (by clear e; revert h; revert c; decide) (by subst e; revert h; revert c; decide))) $$ [A0 B0 HO]
  · isplitr; · iexact HE
    isplitl [A0]; · iexact A0
    isplitl [B0]; · iexact B0
    iexact HO
  iintro ⟨A0, B0, HO⟩
  iapply (wp_bat m K c 1 1 b1 l11 1 5 _ _ (o1 c) rfl rfl (fun h => cpA1 m K c _ b1 (by revert h; revert c; decide) (by revert h; revert c; decide))
    (fun h T {_ _} e => cpB1 m K c T b1 (by clear e; revert h; revert c; decide) (by subst e; revert h; revert c; decide))) $$ [A1 B1 HO]
  · isplitr; · iexact HE
    isplitl [A1]; · iexact A1
    isplitl [B1]; · iexact B1
    iexact HO
  iintro ⟨A1, B1, HO⟩
  iapply (wp_bat m K c 2 0 b2 l01 0 4 _ _ (o2 c) rfl rfl (fun h => cpA0 m K c _ b2 (by revert h; revert c; decide) (by revert h; revert c; decide))
    (fun h T {_ _} e => cpB0 m K c T b2 (by clear e; revert h; revert c; decide) (by subst e; revert h; revert c; decide))) $$ [A2 B2 HO]
  · isplitr; · iexact HE
    isplitl [A2]; · iexact A2
    isplitl [B2]; · iexact B2
    iexact HO
  iintro ⟨A2, B2, HO⟩
  iapply (wp_bat m K c 3 1 b3 l11 1 5 _ _ (o3 c) rfl rfl (fun h => cpA1 m K c _ b3 (by revert h; revert c; decide) (by revert h; revert c; decide))
    (fun h T {_ _} e => cpB1 m K c T b3 (by clear e; revert h; revert c; decide) (by subst e; revert h; revert c; decide))) $$ [A3 B3 HO]
  · isplitr; · iexact HE
    isplitl [A3]; · iexact A3
    isplitl [B3]; · iexact B3
    iexact HO
  iintro ⟨A3, B3, HO⟩
  iapply (wp_exP m K c) $$ [A0 A1 A2 A3 B0 B1 B2 B3 Haa Hab T2 T3 T6 T7 T8 T9 Hout HO]
  · isplitr; · iexact HE
    isplitl [A0 A1 A2 A3]
    · isplitl [A0]; · iexact A0
      isplitl [A1]; · iexact A1
      isplitl [A2] <;> iassumption
    isplitl [B0 B1 B2 B3]
    · isplitl [B0]; · iexact B0
      isplitl [B1]; · iexact B1
      isplitl [B2] <;> iassumption
    isplitl [Haa]; · iexact Haa
    isplitl [Hab]; · iexact Hab
    isplitl [T2]; · iexact T2
    isplitl [T3]; · iexact T3
    isplitl [T6]; · iexact T6
    isplitl [T7]; · iexact T7
    isplitl [T8]; · iexact T8
    isplitl [T9]; · iexact T9
    isplitl [Hout]; · iexact Hout
    iapply (Entails.of_eq (congrArg (st (F := F) c) (o4_eq c))); iexact HO
  iexact Hk

set_option maxHeartbeats 4000000 in
/-- The body. -/
theorem wp_body (W : Waits sig Unit) {Q : PUnit → sProp 𝕄} :
    iprop(env m K ∗ (dutyTok ER (barCell (pl c)) 0 false ∗ dutyTok ER (barCell (pr c)) 0 true ∗ cred (tallyAt (barCell c) () 2) ∗ atPos ER (barCell c) 0 ∅ 0)
        ∗ owes (c : Thread nD τ) (O₀ c) W ∗ (bigSep Finset.univ fun j => tok (F := F) c j) ∗ scr (F := F) c ∗ ins m c ∗ outD m c (fun _ => False))
      ⊢ iprop(((semVal (barCell c) 0 ∗ (bigSep Finset.univ fun j => fin (F := F) c j) ∗ st (F := F) c ∅ ∗ scr (F := F) c ∗ ins m c
          ∗ ((c : Thread nD τ).loc cc0_stg5_0 ↦{fullShare} (OUT m : S4x256x1024.Idx → Elt F .bf16))) -∗ Q ⟨⟩) -∗ runs c bodyP Q) := by
  unfold bodyP
  rw [show ∀ k : Dev nD → PR F, runs c (Prog.op .deviceId k) Q = runs c (k c) Q from fun k => wp_deviceId 𝒱₀ (c : Thread nD τ) none Set.univ]
  unfold scr ins
  iintro ⟨#HE, ⟨D1, D2, Hc, Ha⟩, HO, Ht, ⟨Hpa, Hpb, Hra, Hrb, Haa, Hab, Hga, Hgb⟩, ⟨I0, I1, I2, I3, I4⟩, Hout⟩ Hk
  ihave Hl := (lands_intro (F := F) c) $$ [Hra Hrb Hga Hgb]
  · isplitl [Hra]; · iexact Hra
    isplitl [Hrb]; · iexact Hrb
    isplitl [Hga] <;> iassumption
  iapply (wp_bar m K c W) $$ [D1 D2 Hc Ha HO Hl Ht]
  · isplitr; · iexact HE
    isplitl [D1]; · iexact D1
    isplitl [D2]; · iexact D2
    isplitl [Hc]; · iexact Hc
    isplitl [Ha]; · iexact Ha
    isplitl [HO]; · iexact HO
    isplitl [Hl] <;> iassumption
  iintro ⟨Hz, Ht, HO⟩
  iapply (wp_wq c) $$ I1
  iintro I1
  iapply (wp_wk c) $$ I3
  iintro I3
  iapply (wp_wv c) $$ I4
  iintro I4
  iapply (wp_wo c) $$ I2
  iintro I2
  iapply (wp_x c) $$ I0
  iintro I0
  iapply (wp_main m K c) $$ [Hpa Hpb Haa Hab Ht Hout HO]
  · isplitr; · iexact HE
    isplitl [Hpa]; · iexact Hpa
    isplitl [Hpb]; · iexact Hpb
    isplitl [Haa]; · iexact Haa
    isplitl [Hab]; · iexact Hab
    isplitl [Ht]; · iexact Ht
    isplitl [Hout] <;> iassumption
  unfold scr
  iintro ⟨Hf, HO, Hs, Hout⟩
  iapply Hk
  isplitl [Hz]; · iexact Hz
  isplitl [Hf]; · iexact Hf
  isplitl [HO]; · iexact HO
  isplitl [Hs]; · iexact Hs
  isplitl [I0 I1 I2 I3 I4]
  · isplitl [I0]; · iexact I0
    isplitl [I1]; · iexact I1
    isplitl [I2]; · iexact I2
    isplitl [I3] <;> iassumption
  iexact Hout

end Cert.KernelIdeal.Run

end
-- ==== Proof.KernelIdeal.Start.lean ====
/-
What a device holds at launch, before and after its body, and the body's obligation.
-/
module

public import proofs.«01_k».proof.Proof.KernelIdeal.Body
public import proofs.«01_k».proof.Proof.Gen.KernelIdeal.Launch
public import Idealize.ShloMosaic.Lib.Pipeline.Launch
public import Idealize.ShloMosaic.Lib.Pipeline.Kit

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Knd → ℕ)

/-- The memory at launch: every counter at zero. -/
def s₀ : MemSt nD τ sig (Elt F) := ⟨m, fun _ => 0, ρ⟩

theorem bigSep_option {I : Type} [Fintype I] [DecidableEq I] (Φ : Option I → sProp 𝕄) :
    bigSep Finset.univ Φ = iprop(Φ none ∗ bigSep Finset.univ fun i => Φ (some i)) := by
  rw [bigSep_univ_at Φ none, show (Finset.univ : Finset (Option I)).erase none = Finset.univ.map Function.Embedding.some by
    ext x; cases x <;> simp, bigSep_map]
  rfl
theorem bigSep_bool (Φ : Bool → sProp 𝕄) : bigSep Finset.univ Φ = iprop(Φ false ∗ Φ true) :=
  bigSep_univ_eq_bigSepL [false, true] (by decide) (by decide) Φ
/-- A conjunction over a device's cells. -/
theorem bigSep_knd (Φ : Knd → sProp 𝕄) :
    bigSep Finset.univ Φ = iprop(Φ none ∗ (bigSep Finset.univ fun j => Φ (some (false, j))) ∗ bigSep Finset.univ fun j => Φ (some (true, j))) := by
  rw [bigSep_option, bigSep_univ_prod, bigSep_bool]

/-- The tokens of the duties a device pays. -/
def payToks (c : Dev nD) : sProp 𝕄 :=
  iprop(dutyTok ER (barCell (pl c)) 0 false ∗ dutyTok ER (barCell (pr c)) 0 true
    ∗ (bigSep Finset.univ fun j => dutyTok ER (sendCell c j) 0 false) ∗ bigSep Finset.univ fun j => dutyTok ER (recvCell (peer j c) j) 0 false)
/-- Those and its places at its own cells. -/
def linear (c : Dev nD) : sProp 𝕄 := iprop((bigSep Finset.univ fun k : Knd => atPos ER (kcell (c, k)) 0 ∅ 0) ∗ payToks (F := F) c)

/-- What a device's body starts from. -/
def start (c : Dev nD) : sProp 𝕄 :=
  iprop((∃ K, records m K ∗ linear (F := F) c) ∗ (cred (tallyAt (barCell c) () 2) ∗ bigSep Finset.univ fun j => cred (tallyAt (recvCell c j) () (amt j))) ∗ levAts L lv)

def Φ₀ (c : Dev nD) : sProp 𝕄 := iprop(start m c ∗ scr (F := F) c)
/-- What it ends with, besides its arrays: the buffers, and every cell at zero. -/
def Φ₁ (c : Dev nD) : sProp 𝕄 := iprop(semVal (barCell c) 0 ∗ (bigSep Finset.univ fun j => fin (F := F) c j) ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => wqin m c
    | ⟨2, _⟩ => woin m c
    | ⟨3, _⟩ => wkin m c
    | ⟨4, _⟩ => wvin m c
    | ⟨5, _⟩ => OUT m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ (F := F) c ∗ (dats m ρ 0 c).owesAt () t0_0.succ ∗ stg c cc0_stg0_0 (xin m c) ∗ stg c cc0_stg1_0 (wqin m c) ∗ stg c cc0_stg2_0 (woin m c)
    ∗ stg c cc0_stg3_0 (wkin m c) ∗ stg c cc0_stg4_0 (wvin m c) ∗ stg c cc0_stg5_0 (OUT m))

/-- A device's tokens and places, sorted by copy. -/
theorem toks_in (c : Dev nD) :
    iprop(linear (F := F) c ∗ cred (tallyAt (barCell c) () 2) ∗ bigSep Finset.univ fun j => cred (tallyAt (recvCell c j) () (amt j)))
      ⊢ iprop((dutyTok ER (barCell (pl c)) 0 false ∗ dutyTok ER (barCell (pr c)) 0 true ∗ cred (tallyAt (barCell c) () 2) ∗ atPos ER (barCell c) 0 ∅ 0)
        ∗ bigSep Finset.univ fun j => tok (F := F) c j) := by
  unfold linear payToks tok
  rw [bigSep_knd, bigSep_sep', bigSep_sep', bigSep_sep', bigSep_sep']
  iintro ⟨⟨⟨A, As, Ar⟩, D1, D2, Ds, Dr⟩, C, Cr⟩
  isplitl [D1 D2 C A]
  · isplitl [D1]; · iexact D1
    isplitl [D2]; · iexact D2
    isplitl [C] <;> iassumption
  isplitl [Ds]; · iexact Ds
  isplitl [Dr]; · iexact Dr
  isplitl [Cr]; · iexact Cr
  isplitl [As] <;> iassumption

theorem staged_in (c : Dev nD) (w : Fin 6) (hw : w.val < 5) (d) : (dats m ρ 0 c).before w t0_0 d = (dats m ρ 0 c).after w t0_0 := by
  unfold Dat.before
  rw [if_pos (by clear d; revert hw; revert w; decide)]
  fin_cases w <;> first | rfl | exact absurd hw (by decide)

set_option maxHeartbeats 4000000 in
/-- The body, from what a device holds before it to what it holds after. -/
theorem sound_body (c : Dev nD) (Kt : PUnit → sProp 𝕄) : iprop(bodyPre m ρ c ∗ (bodyPost m ρ c -∗ Kt ⟨⟩)) ⊢ runs c bodyP Kt := by
  unfold bodyPre Φ₀ start
  iintro ⟨⟨⟨⟨⟨%K, #HR, Hl⟩, ⟨Hc, Hcr⟩, #Hlev⟩, Hs⟩, Ho, ⟨%d0, %g0, %e0, I0⟩, ⟨%d1, %g1, %e1, I1⟩, ⟨%d2, %g2, %e2, I2⟩, ⟨%d3, %g3, %e3, I3⟩, ⟨%d4, %g4, %e4, I4⟩, ⟨%d5, %g5, %e5, I5⟩⟩, Hk⟩
  obtain rfl : g0 = xin m c := e0.trans (staged_in m ρ c 0 (by decide) d0)
  obtain rfl : g1 = wqin m c := e1.trans (staged_in m ρ c 1 (by decide) d1)
  obtain rfl : g2 = woin m c := e2.trans (staged_in m ρ c 2 (by decide) d2)
  obtain rfl : g3 = wkin m c := e3.trans (staged_in m ρ c 3 (by decide) d3)
  obtain rfl : g4 = wvin m c := e4.trans (staged_in m ρ c 4 (by decide) d4)
  unfold Dat.owesAt Pipeline.owesWithin
  icases Ho with ⟨%W, %hW, HO⟩
  ihave Ht := (toks_in (F := F) c) $$ [Hl Hc Hcr]
  · isplitl [Hl]; · iexact Hl
    isplitl [Hc] <;> iassumption
  icases Ht with ⟨Hb, Ht⟩
  iapply (wp_body m K c W) $$ [Hb HO Ht Hs I0 I1 I2 I3 I4 I5]
  · isplitr
    · unfold env; isplitr; · iexact HR
      iexact Hlev
    isplitl [Hb]; · iexact Hb
    isplitl [HO]; · iapply (Entails.of_eq (show owes (c : Thread nD τ) ((dats m ρ 0 c).owed t0_0.castSucc) W = (owes (c : Thread nD τ) (O₀ c) W : sProp 𝕄) from rfl)); iexact HO
    isplitl [Ht]; · iexact Ht
    isplitl [Hs]; · iexact Hs
    isplitl [I0 I1 I2 I3 I4]
    · unfold ins
      isplitl [I0]; · iexact I0
      isplitl [I1]; · iexact I1
      isplitl [I2]; · iexact I2
      isplitl [I3] <;> iassumption
    unfold outD
    iexists g5
    isplitr; · ipureintro; exact fun _ h => h.elim
    iexact I5
  unfold st ins
  iintro ⟨Hz, Hf, ⟨%W', HO⟩, Hs, ⟨I0, I1, I2, I3, I4⟩, I5⟩
  iapply Hk
  unfold bodyPost Φ₁ Dat.owesAt Pipeline.owesWithin
  isplitl [Hz Hf Hs]
  · isplitl [Hz]; · iexact Hz
    isplitl [Hf] <;> iassumption
  isplitl [HO]
  · iexists W'
    isplitr; · ipureintro; exact fun _ _ => Or.inl trivial
    iexact HO
  isplitl [I0]
  · iexists _; isplitr; · (ipureintro; rfl)
    iexact I0
  isplitl [I1]
  · iexists _; isplitr; · (ipureintro; rfl)
    iexact I1
  isplitl [I2]
  · iexists _; isplitr; · (ipureintro; rfl)
    iexact I2
  isplitl [I3]
  · iexists _; isplitr; · (ipureintro; rfl)
    iexact I3
  isplitl [I4]
  · iexists _; isplitr; · (ipureintro; rfl)
    iexact I4
  iexists _; isplitr; · (ipureintro; rfl)
  iexact I5

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9) (fun _ => bodyPost m ρ c)
  rw [body_eq]
  iintro H
  iapply (sound_body m ρ c fun _ => bodyPost m ρ c)
  isplitl [H]; · iexact H
  iintro H; iexact H

end Cert.KernelIdeal.Run

end
-- ==== Proof.KernelIdeal.Launch.lean ====
/-
The launch: every cell's invariant made, the duties' tokens dealt to their payers, and the run of the whole program.
-/
module

public import proofs.«01_k».proof.Proof.KernelIdeal.Start
public import Idealize.ShloMosaic.Lib.Pipeline.CollectiveSegs

@[expose] public section

noncomputable section

namespace Cert.KernelIdeal.Run

open Cert.KernelIdeal Cert.KernelIdeal.Gen Cert.Planes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The ten copies' send and receive semaphores. -/
abbrev osem : Bool × Fin 10 → SemLoc sig := fun x => csem (some x)

theorem ownSemFacts : Pipeline.OwnSemFacts cfg0.spec osem := by decide

theorem share_eq (c : Dev nD) (w : Fin cfg0.W) : (dats m ρ 0 c).share w = fullShare := by unfold Dat.share; split <;> rfl

theorem ownSems0_eq (c : Dev nD) : (Pipeline.ownSems0 (Ix := Unit) (Name := ℕ) (U := UU) (Lvl := ℕ) (Val := Elt F) (τ := τ) osem c : sProp 𝕄)
    = bigSep Finset.univ fun j => fin (F := F) c j := by
  unfold Pipeline.ownSems0 fin
  rw [bigSep_univ_prod, bigSep_bool, bigSep_sep']
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All of a device's counters at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Knd => semVal (kcell (c, k)) 0 : sProp 𝕄) := by
  rw [ownSems0_eq, unscopedSems0_eq, bigSep_knd]
  unfold fin
  rw [bigSep_sep']
  iintro ⟨H, HB⟩
  isplitl [HB]; · iexact HB
  iexact H

/-! ## The launch element -/

/-- Every cell of the exchange, and every duty's token: a barrier cell has two, the others one. -/
def exCells : Finset (GSem nD τ sig) := Finset.univ.map ⟨kcell, kcell_injective⟩
abbrev tokOf (cj : Dev nD × Option Knd) : GSem nD τ sig × ℕ × Bool := match cj.2 with
  | none => (barCell cj.1, 0, true) | some k => (kcell (cj.1, k), 0, false)
theorem tokOf_injective : Function.Injective (tokOf : Dev nD × Option Knd → GSem nD τ sig × ℕ × Bool) := by
  rintro ⟨c, _ | k⟩ ⟨c', _ | k'⟩ h
  · exact congrArg (fun c => (c, none)) (Prod.ext_iff.mp (kcell_injective (congrArg Prod.fst h))).1
  · exact absurd (congrArg (fun x => x.2.2) h) (show ¬ true = false by decide)
  · exact absurd (congrArg (fun x => x.2.2) h) (show ¬ false = true by decide)
  · have e := kcell_injective (congrArg Prod.fst h)
    exact congrArg (fun x : Dev nD × Knd => (x.1, some x.2)) e
def exToks : Finset (GSem nD τ sig × ℕ × Bool) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 := iprop(dutyTok ER (barCell c) 0 true ∗ bigSep Finset.univ fun k : Knd => dutyTok ER (kcell (c, k)) 0 false)

/-- What the launch element deals device `c`. -/
def G (c : Dev nD) : sProp 𝕄 :=
  iprop((bigSep Finset.univ fun k : Knd => roundState ER (exRd m) (kcell (c, k)) 0)
    ∗ (bigSep Finset.univ fun k : Knd => iprop(atPos ER (kcell (c, k)) 0 ∅ 0 ∗ reached ER (kcell (c, k)) 0)) ∗ toks (F := F) c)

/-- What becomes of it. -/
def G' (c : Dev nD) : sProp 𝕄 := iprop(∃ K, records m K ∗ linear (F := F) c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Knd => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks (F := F) c := by
    unfold exToks; rw [bigSep_map, bigSep_univ_prod]
    exact bigSep_congr fun c _ => by unfold toks; rw [bigSep_option]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Knd => iprop(∃ κ : ℕ, cellInv ER (exRd m) κ (kcell (c, k))))
          ∗ (bigSep Finset.univ fun k : Knd => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Knd => semVal (kcell (c, k)) 0) ∗ bigSep Finset.univ fun k : Knd => roundState ER (exRd m) (kcell (c, k)) 0)
      ⊢ (|={Set.univ}=> bigSep Finset.univ fun k : Knd => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to their payers -/

def left : Dev nD ≃ Dev nD := ⟨pl, pr, pr_pl, pl_pr⟩
def over : Dev nD × Fin 10 ≃ Dev nD × Fin 10 :=
  ⟨fun x => (peer x.2 x.1, x.2), fun x => (peer x.2 x.1, x.2), fun x => Prod.ext (peer_peer x.2 x.1) rfl, fun x => Prod.ext (peer_peer x.2 x.1) rfl⟩

theorem toks_around : (bigSep Finset.univ fun c : Dev nD => (toks c : sProp 𝕄)) ⊢ bigSep Finset.univ fun c : Dev nD => payToks c := by
  have hk (c : Dev nD) : (toks c : sProp 𝕄) = iprop(dutyTok ER (barCell c) 0 true ∗ dutyTok ER (barCell c) 0 false
      ∗ (bigSep Finset.univ fun j => dutyTok ER (sendCell c j) 0 false) ∗ bigSep Finset.univ fun j => dutyTok ER (recvCell c j) 0 false) := by
    unfold toks; rw [bigSep_knd]
  have hr : (bigSep Finset.univ fun c : Dev nD => bigSep Finset.univ fun j : Fin 10 => (dutyTok ER (recvCell c j) 0 false : sProp 𝕄))
      = bigSep Finset.univ fun c : Dev nD => bigSep Finset.univ fun j : Fin 10 => dutyTok ER (recvCell (peer j c) j) 0 false := by
    rw [← bigSep_univ_prod (fun x : Dev nD × Fin 10 => (dutyTok ER (recvCell x.1 x.2) 0 false : sProp 𝕄)),
      bigSep_univ_equiv over (fun x : Dev nD × Fin 10 => (dutyTok ER (recvCell x.1 x.2) 0 false : sProp 𝕄)),
      bigSep_univ_prod]
    rfl
  rw [bigSep_congr (s := Finset.univ) fun c _ => hk c]
  unfold payToks
  rw [bigSep_sep', bigSep_sep', bigSep_sep', bigSep_sep', bigSep_sep', bigSep_sep', hr,
    bigSep_univ_equiv left (fun c : Dev nD => (dutyTok ER (barCell c) 0 false : sProp 𝕄)),
    bigSep_univ_equiv left.symm (fun c : Dev nD => (dutyTok ER (barCell c) 0 true : sProp 𝕄))]
  iintro ⟨H1, H2, H3, H4⟩
  isplitl [H2]; · iexact H2
  isplitl [H1]; · iexact H1
  isplitl [H3]; · iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Knd → ℕ) (c : Dev nD) : iprop(records m K ∗ linear (F := F) c) ⊢ G' m c := by
  unfold G'; iintro H; iexists K; iexact H

theorem regroup :
    (bigSep Finset.univ fun c : Dev nD => iprop((bigSep Finset.univ fun k : Knd => iprop(∃ κ : ℕ, cellInv ER (exRd m) κ (kcell (c, k))))
          ∗ (bigSep Finset.univ fun k : Knd => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Knd => iprop(∃ κ : ℕ, cellInv ER (exRd m) κ (kcell ck))),
    bigSep_congr (s := Finset.univ) (fun (c : Dev nD) _ => bigSep_sep' Finset.univ (fun k : Knd => (atPos ER (kcell (c, k)) 0 ∅ 0 : sProp 𝕄)) (fun k => reached ER (kcell (c, k)) 0)),
    bigSep_sep', ← bigSep_univ_prod (fun ck : Dev nD × Knd => (reached ER (kcell ck) 0 : sProp 𝕄))]
  iintro ⟨HI, ⟨Hat, #HR⟩, Htok⟩
  ihave HK := (BI.bigSep_exists_pi Finset.univ (fun (ck : Dev nD × Knd) (κ : ℕ) => (cellInv ER (exRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear; rw [bigSep_sep']
    isplitl [Hat]; · iexact Hat
    iexact Htk

/-- Every device's counters become invariants under one update. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem recv_ne_bar (a b : Dev nD) (j : Fin 10) : recvCell a j ≠ barCell b :=
  fun h => absurd (Prod.ext_iff.mp (kcell_injective h)).2 (by simp)

/-- What device `d` owes device `c`'s barrier cell. -/
theorem owed_bar (d c : Dev nD) : O₀ d (barCell c) () = (if d = pl c then 1 else 0) + (if d = pr c then 1 else 0) := by
  have h0 : owe d Finset.univ (barCell c) () = 0 := by
    by_contra hn
    obtain ⟨j, -, hj⟩ := owe_pos (c := d) (S := Finset.univ) (g := barCell c) (u := ()) (Nat.pos_of_ne_zero hn)
    exact recv_ne_bar _ _ _ hj.symm
  unfold O₀ O₁
  rw [Pi.add_apply, Finsupp.add_apply, Pi.add_apply, Finsupp.add_apply, h0, tallyAt_apply, tallyAt_apply, Nat.zero_add]
  congr 1
  · by_cases h : d = pl c
    · subst h; rw [pr_pl, if_pos ⟨rfl, rfl⟩, if_pos rfl]
    · rw [if_neg (fun ⟨h1, _⟩ => h ((congrArg pl (Prod.ext_iff.mp (kcell_injective h1)).1).trans (pl_pr d)).symm), if_neg h]
  · by_cases h : d = pr c
    · subst h; rw [pl_pr, if_pos ⟨rfl, rfl⟩, if_pos rfl]
    · rw [if_neg (fun ⟨h1, _⟩ => h ((congrArg pr (Prod.ext_iff.mp (kcell_injective h1)).1).trans (pr_pl d)).symm), if_neg h]

/-- What device `d` owes device `c`'s receive cell of copy `j`. -/
theorem owed_recv (d c : Dev nD) (j : Fin 10) : O₀ d (recvCell c j) () = if d = peer j c then amt j else 0 := by
  unfold O₀ O₁ owe
  rw [Pi.add_apply, Finsupp.add_apply, Pi.add_apply, Finsupp.add_apply,
    tallyAt_ne_cell (fun h => recv_ne_bar _ _ _ h), tallyAt_ne_cell (fun h => recv_ne_bar _ _ _ h), Finsupp.zero_apply, Nat.add_zero, Nat.add_zero,
    Finset.sum_apply, Finsupp.finset_sum_apply, Finset.sum_eq_single j (fun i _ hi => ?_) (fun h => absurd (Finset.mem_univ _) h), tallyAt_apply]
  · by_cases h : d = peer j c
    · subst h; rw [peer_peer, if_pos ⟨rfl, rfl⟩, if_pos rfl]
    · rw [if_neg (fun ⟨h1, _⟩ => h ((congrArg (peer j) (Prod.ext_iff.mp (kcell_injective h1)).1).trans (peer_peer j d)).symm), if_neg h]
  · rw [tallyAt_apply, if_neg (fun ⟨h1, _⟩ => hi (by
      have e := (Prod.ext_iff.mp (kcell_injective h1)).2
      exact (Prod.ext_iff.mp (Option.some.inj e)).2.symm))]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pl c) fun _ => 1, Finset.sum_ite_eq' Finset.univ (pr c) fun _ => 1, if_pos (Finset.mem_univ _), if_pos (Finset.mem_univ _)]
theorem launch_recv (c : Dev nD) (j : Fin 10) :
    tallyOn (recvCell c j) (launchCredit (Pipeline.owing O₀) 0 (recvCell c j)) = (tallyAt (recvCell c j) () (amt j) : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer j c) fun _ => amt j,
    if_pos (Finset.mem_univ _)]

/-- A device's receive semaphores are distinct. -/
def rcvEmb : Fin 10 ↪ SemLoc sig := ⟨fun j => csem (some (true, j)), fun i j h => (Prod.ext_iff.mp (Option.some.inj (csem_inj h))).2⟩

theorem rcvEmb_sub : (Finset.univ.map rcvEmb : Finset (SemLoc sig)) ⊆ Finset.univ.erase (SemLoc.reg barS) := fun x hx => by
  obtain ⟨j, -, rfl⟩ := Finset.mem_map.mp hx
  exact Finset.mem_erase.mpr ⟨fun h => absurd (csem_inj (a₁ := some (true, j)) (a₂ := none) h) (by simp), Finset.mem_univ _⟩

theorem creds (c : Dev nD) :
    (Pipeline.launchCred O₀ c : sProp 𝕄) ⊢ iprop(cred (tallyAt (barCell c) () 2) ∗ bigSep Finset.univ fun j => cred (tallyAt (recvCell c j) () (amt j))) := by
  unfold Pipeline.launchCred
  rw [bigSep_univ_at _ (SemLoc.reg barS), launch_bar]
  refine sep_mono_right ((bigSep_subset rcvEmb_sub).trans ?_)
  rw [bigSep_map]
  exact bigSep_mono fun j _ => Entails.of_eq (congrArg cred (launch_recv c j))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scr
  iintro ⟨Hz, Hf, Hr⟩
  isplitl [Hz]; · iexact Hz
  isplitl [Hf]; · iexact Hf
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What every array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the program ends on every device, each array at its final contents and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays hold what they held. -/
theorem finalA_in (c : Dev nD) (w : Fin 6) (hw : w.val < 5) : finalA m ρ c w = (s₀ m ρ).mem ((cfg0.win w).arr.view.loc (c : Thread nD τ)) :=
  (dats (F := F) m ρ 0 c).arrAt_in w (by revert hw; revert w; decide) _

end Cert.KernelIdeal.Run

end
-- ==== Proof.Value.Batch.lean ====
/-
What the kernel computes of one batch, written once for the four batches: the heads cut out of the projections, the
attention of each head, the heads laid side by side and their product with the output weights.
-/
module

public import proofs.«01_k».proof.Proof.KernelIdeal.Contents

@[expose] public section

noncomputable section

namespace Cert.KernelIdeal.Value

open Cert.KernelIdeal Cert.KernelIdeal.Gen Cert.KernelIdeal.Run

open Idealize.ShloMosaic

variable {F : FTy → Type} [FloatOps F]

theorem slices_head (b : Fin 4) (h : Fin 8) : S1024x1024.Slices ![256 * b.val, 128 * h.val] S256x128 := by
  revert b h; decide

theorem slices_out (h : Fin 8) : S8x256x128.Slices ![h.val, 0, 0] S1x256x128 := by
  revert h; decide

/-- Head `h` of batch `b` of a projection. -/
def cut (b : Fin 4) (w : FVec F S1024x1024 .bf16) (h : Fin 8) : FVec F S1x256x128 .bf16 :=
  shapeCast S1x256x128 (extractStridedSlice S256x128 ![256 * b.val, 128 * h.val] w (slices_head b h)) shapeCasts_S256x128_S1x256x128

/-- The eight heads of batch `b`, stacked. -/
def heads (b : Fin 4) (w : FVec F S1024x1024 .bf16) : FVec F S8x256x128 .bf16 :=
  concatenate S8x256x128 0 (List.ofFn fun h : Fin 8 => ⟨S1x256x128, cut b w h⟩)
    concatenates_S1x256x128_S1x256x128_S1x256x128_S1x256x128_S1x256x128_S1x256x128_S1x256x128_S1x256x128_S8x256x128_d0

/-- The scaled products of queries and keys, -/
def scores (q k : FVec F S8x256x128 .bf16) : FVec F S8x256x256 .f32 :=
  mulf (matmul dot_S8x256x128_S8x256x128_S8x256x256_2_2_1_1_0_0 none q k (constant S8x256x256 .f32 0x00000000#32))
    (broadcast S8x256x256 (Scalar.ofBits .f32 0x3DB504F3#32))

/-- their exponentials, less the largest of the row, -/
def weights (s : FVec F S8x256x256 .f32) : FVec F S8x256x256 .f32 :=
  exp (subf s (broadcastTo S8x256x256 (shapeCast S8x256x1
    (multiReduction .maximumf [2] S8x256 s 0xFF800000#32 reduces_S8x256x256_S8x256 (.inl rfl) rfl) shapeCasts_S8x256_S8x256x1)
      broadcasts_S8x256x1_S8x256x256))

/-- and the values, averaged. -/
def average (p : FVec F S8x256x256 .f32) (v : FVec F S8x256x128 .bf16) : FVec F S8x256x128 .f32 :=
  divf (matmul dot_S8x256x256_S8x256x128_S8x256x128_2_1_1_2_0_0 none (truncf .bf16 p bitsLt_bf16_f32) v (constant S8x256x128 .f32 0x00000000#32))
    (broadcastTo S8x256x128 (shapeCast S8x256x1
      (multiReduction .add [2] S8x256 p 0x00000000#32 reduces_S8x256x256_S8x256 (.inl rfl) rfl) shapeCasts_S8x256_S8x256x1)
        broadcasts_S8x256x1_S8x256x128)

/-- One head's averaged values, as a matrix. -/
def pick (o : FVec F S8x256x128 .f32) (h : Fin 8) : FVec F S256x128 .bf16 :=
  truncf .bf16 (shapeCast S256x128 (extractStridedSlice S1x256x128 ![h.val, 0, 0] o (slices_out h)) shapeCasts_S1x256x128_S256x128) bitsLt_bf16_f32

/-- The heads side by side. -/
def merge (o : FVec F S8x256x128 .f32) : FVec F S256x1024 .bf16 :=
  concatenate S256x1024 1 (List.ofFn fun h : Fin 8 => ⟨S256x128, pick o h⟩)
    concatenates_S256x128_S256x128_S256x128_S256x128_S256x128_S256x128_S256x128_S256x128_S256x1024_d1

/-- Their product with the output weights. -/
def project (wo : FVec F S1024x1024 .bf16) (a : FVec F S256x1024 .bf16) : FVec F S256x1024 .bf16 :=
  truncf .bf16 (matmul dot_S256x1024_S1024x1024_S256x1024_1_0_0_1_n_n none a wo (constant S256x1024 .f32 0x00000000#32)) bitsLt_bf16_f32

/-- Batch `b`'s partial projection on one device. -/
def partial_ (x : Vec F S4x256x1024 .bf16) (wq wo wk wv : Vec F S1024x1024 .bf16) (b : Fin 4) : FVec F S256x1024 .bf16 :=
  project (k0_pay33 wo) (merge (average (weights (scores (heads b (k0_pay35 wq x)) (heads b (k0_pay36 wk x)))) (heads b (k0_pay37 wv x))))

def leftHalf (p : FVec F S256x1024 .bf16) : FVec F S1x256x512 .bf16 :=
  shapeCast S1x256x512 (extractStridedSlice S256x512 ![0, 0] p slices_S256x1024_o0_0_S256x512) shapeCasts_S256x512_S1x256x512
def rightHalf (p : FVec F S256x1024 .bf16) : FVec F S1x256x512 .bf16 :=
  shapeCast S1x256x512 (extractStridedSlice S256x512 ![0, 512] p slices_S256x1024_o0_512_S256x512) shapeCasts_S256x512_S1x256x512

variable (x : Vec F S4x256x1024 .bf16) (wq wo wk wv : Vec F S1024x1024 .bf16)

/-- What the kernel stores of each batch, left half -/
theorem partA_eq (b : Fin 4) : partA x wq wo wk wv b.val = leftHalf (partial_ x wq wo wk wv b) := by
  fin_cases b <;> rfl

/-- and right half. -/
theorem partB_eq (b : Fin 4) : partB x wq wo wk wv b.val = rightHalf (partial_ x wq wo wk wv b) := by
  fin_cases b <;> rfl

end Cert.KernelIdeal.Value

end
-- ==== Proof.Value.Attention.lean ====
/-
One attention head as a function of its queries, keys and values, over the extended reals.
-/
module

public import Idealize.ShloMosaic.Lib.Pointwise

@[expose] public section

noncomputable section

namespace Cert.Attention

open Idealize.ShloMosaic

/-- The scaled product of query `i` and key `j`. -/
def score (q k : Fin 256 → Fin 128 → EReal) (i j : Fin 256) : EReal := (∑ d, q i d * k j d) * Ideal.ofBits .f32 0x3DB504F3#32

/-- The largest of a query's products. -/
def top (q k : Fin 256 → Fin 128 → EReal) (i : Fin 256) : EReal :=
  Finset.univ.fold max (Ideal.ofBits .f32 0xFF800000#32) fun j => score q k i j

/-- The weight query `i` gives to value `j`, before the division. -/
def weight (q k : Fin 256 → Fin 128 → EReal) (i j : Fin 256) : EReal := Ideal.exp (score q k i j - top q k i)

/-- The head's result for query `i`. -/
def head (q k v : Fin 256 → Fin 128 → EReal) (i : Fin 256) (d : Fin 128) : EReal :=
  Ideal.div (∑ j, weight q k i j * v j d) (∑ j, weight q k i j)

/-- Starting the largest product from one value twice changes nothing. -/
theorem max_top (q k : Fin 256 → Fin 128 → EReal) (i : Fin 256) : max (Ideal.ofBits .f32 0xFF800000#32) (top q k i) = top q k i :=
  max_eq_right (by unfold top; rw [Finset.le_fold_max]; exact Or.inl le_rfl)

end Cert.Attention

end
-- ==== Proof.Value.Block.lean ====
/-
One device's partial projection of one batch, read at an index over the extended reals.
-/
module

public import proofs.«01_k».proof.Proof.Value.Batch
public import proofs.«01_k».proof.Proof.Value.Attention

@[expose] public section

noncomputable section

namespace Cert.KernelIdeal.Value

open Cert.KernelIdeal Cert.KernelIdeal.Gen Cert.KernelIdeal.Run Cert.Attention

open Idealize.ShloMosaic

/-- A projection of the input at a row and a column. -/
theorem q_apply (w : FVec Ideal S1024x1024 .bf16) (x : FVec Ideal S4x256x1024 .bf16) (b : Fin 4) (i : Fin 256) (n : Fin 1024)
    (r : Fin 1024) (hr : r.val = 256 * b.val + i.val) :
    k0_pay35 w x (ix2 r n) = ∑ e : Fin 1024, x (ix3 b i e) * w (ix2 e n) := by
  have h1 : (⟨r.val / 256, by omega⟩ : Fin 4) = b := Fin.ext (by show r.val / 256 = b.val; omega)
  have h2 : (⟨r.val % 256, by omega⟩ : Fin 256) = i := Fin.ext (by show r.val % 256 = i.val; omega)
  pointwise [k0_pay35, k0_pay34]
  exact Finset.sum_congr rfl fun e _ => congrArg₂ (fun p q => x (ix3 p q e) * w (ix2 e n)) h1 h2

theorem k_apply (w : FVec Ideal S1024x1024 .bf16) (x : FVec Ideal S4x256x1024 .bf16) (r n : Fin 1024) :
    k0_pay36 (F := Ideal) w x (ix2 r n) = k0_pay35 (F := Ideal) w x (ix2 r n) := rfl

theorem v_apply (w : FVec Ideal S1024x1024 .bf16) (x : FVec Ideal S4x256x1024 .bf16) (r n : Fin 1024) :
    k0_pay37 (F := Ideal) w x (ix2 r n) = k0_pay35 (F := Ideal) w x (ix2 r n) := rfl

theorem o_apply (w : FVec Ideal S1024x1024 .bf16) (r n : Fin 1024) : k0_pay33 w (ix2 r n) = w (ix2 r n) := by
  pointwise [k0_pay33]

theorem cut_apply (b : Fin 4) (w : FVec Ideal S1024x1024 .bf16) (h : Fin 8) (i : Fin 256) (d : Fin 128) :
    cut b w h (ix3 0 i d) = w (ix2 ⟨256 * b.val + i.val, by omega⟩ ⟨128 * h.val + d.val, by omega⟩) := by
  pointwise [cut]

theorem scores_apply (q k : FVec Ideal S8x256x128 .bf16) (h : Fin 8) (i j : Fin 256) :
    scores q k (ix3 h i j) = score (fun i d => q (ix3 h i d)) (fun i d => k (ix3 h i d)) i j := by
  pointwise [scores, score]

theorem weights_apply (s : FVec Ideal S8x256x256 .f32) (h : Fin 8) (i j : Fin 256) :
    weights s (ix3 h i j) = Ideal.exp (s (ix3 h i j) - Finset.univ.fold max (Ideal.ofBits .f32 0xFF800000#32) fun j => s (ix3 h i j)) := by
  pointwise [weights]

theorem average_apply (p : FVec Ideal S8x256x256 .f32) (v : FVec Ideal S8x256x128 .bf16) (h : Fin 8) (i : Fin 256) (d : Fin 128) :
    average p v (ix3 h i d) = Ideal.div (∑ j, p (ix3 h i j) * v (ix3 h j d)) (∑ j, p (ix3 h i j)) := by
  pointwise [average]

theorem pick_apply (o : FVec Ideal S8x256x128 .f32) (h : Fin 8) (i : Fin 256) (d : Fin 128) : pick o h (ix2 i d) = o (ix3 h i d) := by
  pointwise [pick]

theorem project_apply (wo : FVec Ideal S1024x1024 .bf16) (a : FVec Ideal S256x1024 .bf16) (i : Fin 256) (n : Fin 1024) :
    project wo a (ix2 i n) = ∑ e : Fin 1024, a (ix2 i e) * wo (ix2 e n) := by
  pointwise [project]

theorem leftHalf_apply (p : FVec Ideal S256x1024 .bf16) (i : Fin 256) (n : Fin 512) :
    leftHalf p (ix3 0 i n) = p (ix2 i ⟨n.val, by omega⟩) := by
  pointwise [leftHalf]

theorem rightHalf_apply (p : FVec Ideal S256x1024 .bf16) (i : Fin 256) (n : Fin 512) :
    rightHalf p (ix3 0 i n) = p (ix2 i ⟨512 + n.val, by omega⟩) := by
  pointwise [rightHalf]

theorem heads_apply (b : Fin 4) (w : FVec Ideal S1024x1024 .bf16) (h : Fin 8) (i : Fin 256) (d : Fin 128) :
    heads b w (ix3 h i d) = w (ix2 ⟨256 * b.val + i.val, by omega⟩ ⟨128 * h.val + d.val, by omega⟩) := by
  rw [← cut_apply b w h i d]
  exact concatenate_ofFn_unit_apply (t := S8x256x128) (s₁ := S1x256x128) 0 (cut b w) _ rfl rfl (ix3 h i d) h rfl (ix3 0 i d) (by
    intro a ha; fin_cases a
    · exact absurd rfl ha
    · rfl
    · rfl)

theorem merge_apply (o : FVec Ideal S8x256x128 .f32) (i : Fin 256) (c : Fin 1024) :
    merge o (ix2 i c) = o (ix3 ⟨c.val / 128, by omega⟩ i ⟨c.val % 128, by omega⟩) := by
  rw [← pick_apply o ⟨c.val / 128, by omega⟩ i ⟨c.val % 128, by omega⟩]
  exact concatenate_ofFn_apply (t := S256x1024) (s₁ := S256x128) 1 (pick o) _ rfl 128 rfl (ix2 i c) ⟨c.val / 128, by omega⟩ rfl
    (ix2 i ⟨c.val % 128, by omega⟩) rfl (by
    intro a ha; fin_cases a
    · rfl
    · exact absurd rfl ha)

/-- Batch `b`'s rows of a projection of the input, columns `128 * h` to `128 * h + 127`. -/
def proj (x : FVec Ideal S4x256x1024 .bf16) (w : FVec Ideal S1024x1024 .bf16) (b : Fin 4) (h : Fin 8) (i : Fin 256) (d : Fin 128) : EReal :=
  ∑ e : Fin 1024, x (ix3 b i e) * w (ix2 e ⟨128 * h.val + d.val, by omega⟩)

/-- One device's partial projection of batch `b`: its eight heads against its rows of the output weights. -/
theorem partial_apply (x : FVec Ideal S4x256x1024 .bf16) (wq wo wk wv : FVec Ideal S1024x1024 .bf16) (b : Fin 4) (i : Fin 256) (n : Fin 1024) :
    partial_ (F := Ideal) x wq wo wk wv b (ix2 i n)
      = ∑ c : Fin 1024, head (proj x wq b ⟨c.val / 128, by omega⟩) (proj x wk b ⟨c.val / 128, by omega⟩) (proj x wv b ⟨c.val / 128, by omega⟩)
          i ⟨c.val % 128, by omega⟩ * wo (ix2 c n) := by
  unfold partial_
  rw [project_apply]
  refine Finset.sum_congr rfl fun c _ => ?_
  rw [o_apply, merge_apply, average_apply]
  have hq : ∀ (h : Fin 8) (i : Fin 256) (d : Fin 128), heads b (k0_pay35 (F := Ideal) wq x) (ix3 h i d) = proj x wq b h i d := fun h i d => by
    rw [heads_apply, q_apply wq x b i _ _ rfl]; rfl
  have hk : ∀ (h : Fin 8) (i : Fin 256) (d : Fin 128), heads b (k0_pay36 (F := Ideal) wk x) (ix3 h i d) = proj x wk b h i d := fun h i d => by
    rw [heads_apply, k_apply, q_apply wk x b i _ _ rfl]; rfl
  have hv : ∀ (h : Fin 8) (i : Fin 256) (d : Fin 128), heads b (k0_pay37 (F := Ideal) wv x) (ix3 h i d) = proj x wv b h i d := fun h i d => by
    rw [heads_apply, v_apply, q_apply wv x b i _ _ rfl]; rfl
  simp only [weights_apply, scores_apply, hq, hk, hv]
  rfl

end Cert.KernelIdeal.Value

end
-- ==== Proof.Value.Sum.lean ====
/-
The result array read at an index over the extended reals: the sum of the four devices' partial projections.
-/
module

public import proofs.«01_k».proof.Proof.Value.Block

@[expose] public section

noncomputable section

namespace Cert.KernelIdeal.Value

open Cert.KernelIdeal Cert.KernelIdeal.Gen Cert.KernelIdeal.Run

open Idealize.ShloMosaic

variable (m : (ℓ : Loc nD τ sig) → Buf (Elt Ideal) ℓ)

/-- Device `c`'s partial projection at batch `b`, row `i`, column `n`. -/
def part (b : Fin 4) (i : Fin 256) (n : Fin 1024) (c : Dev nD) : EReal :=
  partial_ (F := Ideal) (xin m c) (wqin m c) (woin m c) (wkin m c) (wvin m c) b (ix2 i n)

theorem pix_eq (i : Fin 256) (n : Fin 512) : pix i.val n.val = (ix3 0 i n : S1x256x512.Idx) := by
  funext a; apply Fin.ext; fin_cases a
  · rfl
  · exact Nat.mod_eq_of_lt i.isLt
  · exact Nat.mod_eq_of_lt n.isLt

theorem PA_apply (c : Dev nD) (b : Fin 4) (i : Fin 256) (n : Fin 512) :
    @Eq EReal (PA m c b.val i.val n.val) (part m b i ⟨n.val, by omega⟩ c) := by
  unfold PA row part
  rw [pix_eq, partA_eq]
  exact leftHalf_apply _ i n

theorem PB_apply (c : Dev nD) (b : Fin 4) (i : Fin 256) (n : Fin 512) :
    @Eq EReal (PB m c b.val i.val n.val) (part m b i ⟨512 + n.val, by omega⟩ c) := by
  unfold PB row part
  rw [pix_eq, partB_eq]
  exact rightHalf_apply _ i n

/-- A device, its two partners and its partner's partner are all the devices. -/
theorem sum_partners (f : Dev nD → EReal) (c : Dev nD) : (f (p2 c) + f (p1 (p2 c))) + (f c + f (p1 c)) = ∑ d, f d := by
  have hs : (Finset.univ : Finset (Dev nD)) = {p2 c, p1 (p2 c), c, p1 c} := by clear f; revert c; decide
  rw [hs, Finset.sum_insert (by clear hs f; revert c; decide), Finset.sum_insert (by clear hs f; revert c; decide),
    Finset.sum_insert (by clear hs f; revert c; decide), Finset.sum_singleton, add_assoc]
theorem sum_partners' (f : Dev nD → EReal) (c : Dev nD) : (f (p1 c) + f (p2 (p1 c))) + (f c + f (p2 c)) = ∑ d, f d := by
  have hs : (Finset.univ : Finset (Dev nD)) = {p1 c, p2 (p1 c), c, p2 c} := by clear f; revert c; decide
  rw [hs, Finset.sum_insert (by clear hs f; revert c; decide), Finset.sum_insert (by clear hs f; revert c; decide),
    Finset.sum_insert (by clear hs f; revert c; decide), Finset.sum_singleton, add_assoc]

/-- The batch a device finishes is one of the two it keeps. -/
theorem ownA_batch (b : Fin 4) : h0 (ownA b.val) + (b.val - h0 (ownA b.val)) = b.val := by revert b; decide
theorem ownB_batch (b : Fin 4) : bh0 (ownB b.val) + (b.val - bh0 (ownB b.val)) = b.val := by revert b; decide
theorem bh0_p1 (c : Dev nD) : bh0 (p1 c) = bh0 c := by revert c; decide

theorem FA_apply (b : Fin 4) (i : Fin 256) (n : Fin 512) :
    @Eq EReal (FA m b.val i.val n.val) (∑ c, part m b i ⟨n.val, by omega⟩ c) := by
  rw [← sum_partners _ (ownA b.val)]
  simp only [← PA_apply]
  unfold FA GA AA RA
  rw [h0_p2, ownA_batch]
  rfl

theorem FB_apply (b : Fin 4) (i : Fin 256) (n : Fin 512) :
    @Eq EReal (FB m b.val i.val n.val) (∑ c, part m b i ⟨512 + n.val, by omega⟩ c) := by
  rw [← sum_partners' _ (ownB b.val)]
  simp only [← PB_apply]
  unfold FB GB AB RB
  rw [bh0_p1, ownB_batch]
  rfl

/-- The result at batch `b`, row `i`, column `n`. -/
theorem OUT_apply (b : Fin 4) (i : Fin 256) (n : Fin 1024) : @Eq EReal (OUT m (ix3 b i n)) (∑ c, part m b i n c) := by
  by_cases h : n.val < 512
  · exact (if_pos h).trans (FA_apply m b i ⟨n.val, h⟩)
  · refine (if_neg h).trans ((FB_apply m b i ⟨n.val - 512, by omega⟩).trans (Finset.sum_congr rfl fun c _ => congrArg (fun n => part m b i n c) (Fin.ext ?_)))
    show 512 + (n.val - 512) = n.val
    omega

end Cert.KernelIdeal.Value

end
-- ==== Proof.Value.Arrays.lean ====
/-
What the arrays hold at the end: each input read whole, and the result array filled with what the body left.
-/
module

public import proofs.«01_k».proof.Proof.KernelIdeal.Launch

@[expose] public section

noncomputable section

namespace Cert.KernelIdeal.Value

open Cert.KernelIdeal Cert.KernelIdeal.Gen Cert.KernelIdeal.Run

open Idealize.ShloMosaic
open Idealize.ShloMosaic.TcCoe

variable {F : FTy → Type} [FloatOps F]

variable (m : (ℓ : Loc nD τ sig) → Buf (Elt F) ℓ) (ρ : Dev nD → PrngReg) (c : Dev nD)

/-- An input's only block is the whole array. -/
theorem emb_x (i : S4x256x1024.Idx) : (win0_0.blk (0 : Fin 1)).view.emb i = i := by
  funext a; apply Fin.ext; fin_cases a <;> exact (Nat.zero_add _).trans (Nat.one_mul _)
theorem emb_out (i : S4x256x1024.Idx) : (win0_5.blk (0 : Fin 1)).view.emb i = i := by
  funext a; apply Fin.ext; fin_cases a <;> exact (Nat.zero_add _).trans (Nat.one_mul _)
theorem emb_q (i : S1024x1024.Idx) : (win0_1.blk (0 : Fin 1)).view.emb i = i := by
  funext a; apply Fin.ext; fin_cases a <;> exact (Nat.zero_add _).trans (Nat.one_mul _)

theorem xin_eq : xin m c = m ((c : Thread nD τ).loc main_arg0) :=
  funext fun i => congrArg (m ((c : Thread nD τ).loc main_arg0)) (emb_x i)
theorem wqin_eq : wqin m c = m ((c : Thread nD τ).loc main_arg1) :=
  funext fun i => congrArg (m ((c : Thread nD τ).loc main_arg1)) (emb_q i)
theorem woin_eq : woin m c = m ((c : Thread nD τ).loc main_arg2) :=
  funext fun i => congrArg (m ((c : Thread nD τ).loc main_arg2)) (emb_q i)
theorem wkin_eq : wkin m c = m ((c : Thread nD τ).loc main_arg3) :=
  funext fun i => congrArg (m ((c : Thread nD τ).loc main_arg3)) (emb_q i)
theorem wvin_eq : wvin m c = m ((c : Thread nD τ).loc main_arg4) :=
  funext fun i => congrArg (m ((c : Thread nD τ).loc main_arg4)) (emb_q i)

/-- The result array ends as the sums the body left. -/
theorem finalA_out : finalA m ρ c (5 : Fin 6) = OUT m := by
  refine (dats m ρ 0 c).arrAt_eq_of_cover (5 : Fin 6) (OUT m) (fun t _ => ?_) fun i => ⟨(0 : Fin 1), by decide, ?_⟩
  · obtain rfl : t = (0 : Fin 1) := Subsingleton.elim (α := Fin 1) t 0
    exact funext fun i => (congrArg (OUT m) (emb_out i)).symm
  · have h := (win0_5.blk (0 : Fin 1)).view.emb_mem_set i
    rw [emb_out] at h
    exact h

end Cert.KernelIdeal.Value

end
-- ==== Proof.Value.Ref.lean ====
/-
What the reference computes, stage by stage, each stage read at an index over the extended reals.
-/
module

public import proofs.«01_k».proof.Proof.Gen.ReferenceIdeal.Run
public import proofs.«01_k».proof.Proof.Value.Attention

@[expose] public section

noncomputable section

namespace Cert.ReferenceIdeal.Value

open Cert.ReferenceIdeal Cert.ReferenceIdeal.Gen Cert.Attention

open Idealize.ShloMosaic
open Idealize.ShloMosaic.TcCoe

/-- A projection of the input, its columns parted into 32 heads. -/
def rows {F : FTy → Type} [FloatOps F] (x : FVec F S4x256x1024 .bf16) (w : FVec F S1024x4096 .bf16) : FVec F S4x256x32x128 .bf16 :=
  shapeCast _ (truncf .bf16 (Host.dotGeneral dot_S4x256x1024_S1024x4096_S4x256x4096_2_0_01_1_n_n none x w) bitsLt_bf16_f32)
    shapeCasts_S4x256x4096_S4x256x32x128

/-- The scaled products of queries and keys, -/
def scores {F : FTy → Type} [FloatOps F] (q k : FVec F S4x256x32x128 .bf16) : FVec F S4x32x256x256 .f32 :=
  mulf (extf .f32 (truncf .bf16 (Host.dotGeneral dot_S4x256x32x128_S4x256x32x128_S4x32x256x256_3_3_1_1_02_02 none q k) bitsLt_bf16_f32) bitsLt_bf16_f32)
    (broadcastInDim S4x32x256x256 ![] bcast_S_S4x32x256x256 (constant S_ .f32 0x3DB504F3#32))

/-- the running maximum after the only block, -/
def highest {F : FTy → Type} [FloatOps F] (s : FVec F S4x32x256x256 .f32) : FVec F S4x32x256x1 .f32 :=
  maximumf (broadcastInDim S4x32x256x1 ![] bcast_S_S4x32x256x1 (constant S_ .f32 0xFF800000#32))
    (broadcastInDim S4x32x256x1 ![0, 1, 2] bcast_S4x32x256_S4x32x256x1_0_1_2
      (Host.reduce FloatOps.maximumf s (constant S_ .f32 0xFF800000#32) reducesTo_S4x32x256x256_S4x32x256_d3 h_S_))

/-- the factor of what came before, -/
def factor {F : FTy → Type} [FloatOps F] (t : FVec F S4x32x256x1 .f32) : FVec F S4x32x256x1 .f32 :=
  Host.exp (subf (broadcastInDim S4x32x256x1 ![] bcast_S_S4x32x256x1 (constant S_ .f32 0xFF800000#32)) t)

/-- the exponentials, -/
def weights {F : FTy → Type} [FloatOps F] (s : FVec F S4x32x256x256 .f32) (t : FVec F S4x32x256x1 .f32) : FVec F S4x32x256x256 .f32 :=
  Host.exp (subf s (broadcastInDim S4x32x256x256 ![0, 1, 2, 3] bcast_S4x32x256x1_S4x32x256x256_0_1_2_3 t))

/-- the running sum of the exponentials, -/
def total {F : FTy → Type} [FloatOps F] (a : FVec F S4x32x256x1 .f32) (p : FVec F S4x32x256x256 .f32) : FVec F S4x32x256x1 .f32 :=
  addf (mulf (broadcastInDim S4x32x256x1 ![] bcast_S_S4x32x256x1 (constant S_ .f32 0x00000000#32)) a)
    (broadcastInDim S4x32x256x1 ![0, 1, 2] bcast_S4x32x256_S4x32x256x1_0_1_2
      (Host.reduceAdd p (constant S_ .f32 0x00000000#32) reducesTo_S4x32x256x256_S4x32x256_d3 h_S_))

/-- the running sum of the weighted values, -/
def summed {F : FTy → Type} [FloatOps F] (a : FVec F S4x32x256x1 .f32) (p : FVec F S4x32x256x256 .f32) (v : FVec F S4x256x32x128 .bf16) : FVec F S4x256x32x128 .f32 :=
  addf (mulf (broadcastInDim S4x256x32x128 ![] bcast_S_S4x256x32x128 (constant S_ .f32 0x00000000#32))
      (broadcastInDim S4x256x32x128 ![0, 1, 2, 3] bcast_S4x256x32x1_S4x256x32x128_0_1_2_3
        (transpose S4x256x32x1 [0, 2, 1, 3] a transposes_S4x32x256x1_S4x256x32x1_0_2_1_3)))
    (transpose S4x256x32x128 [0, 3, 1, 2] (Host.dotGeneral dot_S4x256x32x128_S4x32x256x256_S4x32x128x256_1_3_3_2_02_01 none (extf .f32 v bitsLt_bf16_f32) p)
      transposes_S4x32x128x256_S4x256x32x128_0_3_1_2)

/-- their ratio, -/
def ratio {F : FTy → Type} [FloatOps F] (o : FVec F S4x256x32x128 .f32) (l : FVec F S4x32x256x1 .f32) : FVec F S4x256x32x128 .f32 :=
  Host.divf o (broadcastInDim S4x256x32x128 ![0, 1, 2, 3] bcast_S4x256x32x1_S4x256x32x128_0_1_2_3
    (transpose S4x256x32x1 [0, 2, 1, 3] l transposes_S4x32x256x1_S4x256x32x1_0_2_1_3))

/-- and its product with the output weights. -/
def project {F : FTy → Type} [FloatOps F] (o : FVec F S4x256x32x128 .f32) (w : FVec F S4096x1024 .bf16) : FVec F S4x256x1024 .bf16 :=
  truncf .bf16 (Host.dotGeneral dot_S4x256x4096_S4096x1024_S4x256x1024_2_0_01_1_n_n none
    (shapeCast _ o shapeCasts_S4x256x32x128_S4x256x4096) (extf .f32 w bitsLt_bf16_f32)) bitsLt_bf16_f32

/-- The heads' averaged values, from queries, keys and values. -/
def attend {F : FTy → Type} [FloatOps F] (q k v : FVec F S4x256x32x128 .bf16) : FVec F S4x256x32x128 .f32 :=
  ratio (summed (factor (highest (scores q k))) (weights (scores q k) (highest (scores q k))) v)
    (total (factor (highest (scores q k))) (weights (scores q k) (highest (scores q k))))

/-- The reference's result is these stages in a row. -/
theorem out_eq {F : FTy → Type} [FloatOps F] (m : (ℓ : Loc nD τ sig) → Buf (Elt F) ℓ) (c : Dev nD) :
    res_main_v42 m c = project (attend (rows (m ((c.tc : Thread nD τ).loc main_arg0)) (m ((c.tc : Thread nD τ).loc main_arg1)))
      (rows (m ((c.tc : Thread nD τ).loc main_arg0)) (m ((c.tc : Thread nD τ).loc main_arg3)))
      (rows (m ((c.tc : Thread nD τ).loc main_arg0)) (m ((c.tc : Thread nD τ).loc main_arg4)))) (m ((c.tc : Thread nD τ).loc main_arg2)) := by
  unfold res_main_v42 project attend ratio summed total weights factor highest scores rows
  rfl

/-- Batch `b`'s rows of a projection of the input, the columns of head `h`. -/
def proj (x : FVec Ideal S4x256x1024 .bf16) (w : FVec Ideal S1024x4096 .bf16) (b : Fin 4) (h : Fin 32) (i : Fin 256) (d : Fin 128) : EReal :=
  ∑ e : Fin 1024, x (ix3 b i e) * w (ix2 e ⟨h.val * 128 + d.val, by omega⟩)

variable (b : Fin 4) (h : Fin 32) (i : Fin 256)

theorem rows_apply (x : FVec Ideal S4x256x1024 .bf16) (w : FVec Ideal S1024x4096 .bf16) (d : Fin 128) :
    rows x w (ix4 b i h d) = proj x w b h i d := by
  unfold rows proj
  pointwise

theorem scores_apply (q k : FVec Ideal S4x256x32x128 .bf16) (j : Fin 256) :
    scores q k (ix4 b h i j) = score (fun i d => q (ix4 b i h d)) (fun i d => k (ix4 b i h d)) i j := by
  unfold scores score
  pointwise

/-- The largest along the last axis, started from any word. -/
theorem reduce_apply (s : FVec Ideal S4x32x256x256 .f32) (z : BitVec 32) :
    Host.reduce FloatOps.maximumf s (constant S_ .f32 z) reducesTo_S4x32x256x256_S4x32x256_d3 h_S_ (ix3 b h i)
      = Finset.univ.fold max (Ideal.ofBits .f32 z) fun j : Fin 256 => s (ix4 b h i j) := by
  pointwise

/-- The larger of that and any word. -/
theorem larger_apply (u : FVec Ideal S4x32x256 .f32) (z : BitVec 32) :
    maximumf (broadcastInDim S4x32x256x1 ![] bcast_S_S4x32x256x1 (constant S_ .f32 z))
      (broadcastInDim S4x32x256x1 ![0, 1, 2] bcast_S4x32x256_S4x32x256x1_0_1_2 u) (ix4 b h i 0) = max (Ideal.ofBits .f32 z) (u (ix3 b h i)) := by
  pointwise

theorem highest_at (s : FVec Ideal S4x32x256x256 .f32) :
    highest s (ix4 b h i 0) = max (Ideal.ofBits .f32 0xFF800000#32) (Finset.univ.fold max (Ideal.ofBits .f32 0xFF800000#32) fun j => s (ix4 b h i j)) := by
  unfold highest
  generalize 0xFF800000#32 = z
  rw [larger_apply, reduce_apply]

theorem highest_apply (q k : FVec Ideal S4x256x32x128 .bf16) :
    highest (scores q k) (ix4 b h i 0) = top (fun i d => q (ix4 b i h d)) (fun i d => k (ix4 b i h d)) i := by
  rw [← max_top, highest_at]
  unfold top
  simp only [← scores_apply]

theorem weights_apply (q k : FVec Ideal S4x256x32x128 .bf16) (j : Fin 256) :
    weights (scores q k) (highest (scores q k)) (ix4 b h i j) = weight (fun i d => q (ix4 b i h d)) (fun i d => k (ix4 b i h d)) i j := by
  unfold weight
  rw [← scores_apply, ← highest_apply]
  generalize highest (scores q k) = t
  generalize scores q k = s
  unfold weights
  pointwise

theorem total_apply (a : FVec Ideal S4x32x256x1 .f32) (p : FVec Ideal S4x32x256x256 .f32) :
    total a p (ix4 b h i 0) = ∑ j : Fin 256, p (ix4 b h i j) := by
  unfold total
  pointwise
  rw [zero_mul, zero_add]

theorem summed_apply (a : FVec Ideal S4x32x256x1 .f32) (p : FVec Ideal S4x32x256x256 .f32) (v : FVec Ideal S4x256x32x128 .bf16) (d : Fin 128) :
    summed a p v (ix4 b i h d) = ∑ j : Fin 256, p (ix4 b h i j) * v (ix4 b j h d) := by
  unfold summed
  pointwise
  rw [zero_mul, zero_add]
  exact Finset.sum_congr rfl fun j _ => mul_comm _ _

theorem ratio_apply (o : FVec Ideal S4x256x32x128 .f32) (l : FVec Ideal S4x32x256x1 .f32) (d : Fin 128) :
    ratio o l (ix4 b i h d) = Ideal.div (o (ix4 b i h d)) (l (ix4 b h i 0)) := by
  unfold ratio
  pointwise

theorem project_apply (o : FVec Ideal S4x256x32x128 .f32) (w : FVec Ideal S4096x1024 .bf16) (n : Fin 1024) :
    project o w (ix3 b i n) = ∑ e : Fin 4096, o (ix4 b i ⟨e.val / 128, by omega⟩ ⟨e.val % 128, by omega⟩) * w (ix2 e n) := by
  unfold project
  pointwise

theorem attend_apply (q k v : FVec Ideal S4x256x32x128 .bf16) (d : Fin 128) :
    attend q k v (ix4 b i h d) = head (fun i d => q (ix4 b i h d)) (fun i d => k (ix4 b i h d)) (fun i d => v (ix4 b i h d)) i d := by
  unfold attend head
  rw [ratio_apply, total_apply, summed_apply]
  simp only [weights_apply]

/-- The reference's result: the 32 heads against the output weights. -/
theorem project_attend_apply (x : FVec Ideal S4x256x1024 .bf16) (wq wk wv : FVec Ideal S1024x4096 .bf16) (wo : FVec Ideal S4096x1024 .bf16) (n : Fin 1024) :
    project (attend (rows x wq) (rows x wk) (rows x wv)) wo (ix3 b i n)
      = ∑ e : Fin 4096, head (proj x wq b ⟨e.val / 128, by omega⟩) (proj x wk b ⟨e.val / 128, by omega⟩) (proj x wv b ⟨e.val / 128, by omega⟩)
          i ⟨e.val % 128, by omega⟩ * wo (ix2 e n) := by
  rw [project_apply]
  refine Finset.sum_congr rfl fun e _ => ?_
  rw [attend_apply]
  simp only [rows_apply]

end Cert.ReferenceIdeal.Value

end
-- ==== Proof.Value.Equation.lean ====
/-
The kernel's result is the reference's: the sum over devices and their columns is the sum over all columns.
-/
module

public import proofs.«01_k».proof.Proof.Value.Sum
public import proofs.«01_k».proof.Proof.Value.Arrays
public import proofs.«01_k».proof.Proof.Value.Ref
public import Idealize.ShloMosaic.Lib.Layout

@[expose] public section

noncomputable section

namespace Cert.Equation

open Cert.Attention

open Idealize.ShloMosaic
open Idealize.ShloMosaic.TcCoe

/-- Device `c`'s columns of a weight matrix, -/
theorem cols_apply (w : FVec Ideal ⟨2, ![1024, 4096]⟩ .bf16) (c : Fin 4) (e n : Fin 1024) :
    Layout.block ⟨2, ![1024, 1024]⟩ ⟨2, ![1024, 4096]⟩ 1 4 c w (by decide) (ix2 e n) = w (ix2 e ⟨c.val * 1024 + n.val, by omega⟩) :=
  congrArg w (by funext a; apply Fin.ext; fin_cases a <;> rfl)

/-- and its rows of the output weights. -/
theorem rows_apply (w : FVec Ideal ⟨2, ![4096, 1024]⟩ .bf16) (c : Fin 4) (e n : Fin 1024) :
    Layout.block ⟨2, ![1024, 1024]⟩ ⟨2, ![4096, 1024]⟩ 0 4 c w (by decide) (ix2 e n) = w (ix2 ⟨c.val * 1024 + e.val, by omega⟩ n) :=
  congrArg w (by funext a; apply Fin.ext; fin_cases a <;> rfl)

/-- A sum over all the columns, device by device. -/
theorem sum_devices (f : Fin 4096 → EReal) : ∑ c : Fin 4, ∑ k : Fin 1024, f ⟨c.val * 1024 + k.val, by omega⟩ = ∑ e, f e := by
  rw [← Fintype.sum_prod_type']
  exact Fintype.sum_equiv (finProdFinEquiv (m := 4) (n := 1024)) _ _ fun x => congrArg f (Fin.ext (by
    show x.1.val * 1024 + x.2.val = x.2.val + 1024 * x.1.val
    omega))

/-- Head `k / 128` of device `c` is head `(1024 c + k) / 128` of all. -/
theorem proj_block (x : FVec Ideal ⟨3, ![4, 256, 1024]⟩ .bf16) (w : FVec Ideal ⟨2, ![1024, 4096]⟩ .bf16) (c b : Fin 4) (k : Fin 1024) :
    Cert.KernelIdeal.Value.proj x (Layout.block ⟨2, ![1024, 1024]⟩ ⟨2, ![1024, 4096]⟩ 1 4 c w (by decide)) b ⟨k.val / 128, by omega⟩
      = Cert.ReferenceIdeal.Value.proj x w b ⟨(c.val * 1024 + k.val) / 128, by omega⟩ := by
  funext i d
  unfold Cert.KernelIdeal.Value.proj Cert.ReferenceIdeal.Value.proj
  refine Finset.sum_congr rfl fun e _ => congrArg (x (ix3 b i e) * ·) ?_
  rw [cols_apply]
  refine congrArg (fun n => w (ix2 e n)) (Fin.ext ?_)
  show c.val * 1024 + (128 * (k.val / 128) + d.val) = (c.val * 1024 + k.val) / 128 * 128 + d.val
  omega

variable (x : FVec Ideal ⟨3, ![4, 256, 1024]⟩ .bf16) (wq wk wv : FVec Ideal ⟨2, ![1024, 4096]⟩ .bf16) (wo : FVec Ideal ⟨2, ![4096, 1024]⟩ .bf16)

/-- The four devices' partial projections add up to the reference's result. -/
theorem sum_partial (b : Fin 4) (i : Fin 256) (n : Fin 1024) :
    ∑ c : Fin 4, Cert.KernelIdeal.Value.partial_ (F := Ideal) x (Layout.block ⟨2, ![1024, 1024]⟩ ⟨2, ![1024, 4096]⟩ 1 4 c wq (by decide))
        (Layout.block ⟨2, ![1024, 1024]⟩ ⟨2, ![4096, 1024]⟩ 0 4 c wo (by decide)) (Layout.block ⟨2, ![1024, 1024]⟩ ⟨2, ![1024, 4096]⟩ 1 4 c wk (by decide))
        (Layout.block ⟨2, ![1024, 1024]⟩ ⟨2, ![1024, 4096]⟩ 1 4 c wv (by decide)) b (ix2 i n)
      = Cert.ReferenceIdeal.Value.project (Cert.ReferenceIdeal.Value.attend (Cert.ReferenceIdeal.Value.rows x wq)
          (Cert.ReferenceIdeal.Value.rows x wk) (Cert.ReferenceIdeal.Value.rows x wv)) wo (ix3 b i n) := by
  rw [Cert.ReferenceIdeal.Value.project_attend_apply, ← sum_devices]
  refine Finset.sum_congr rfl fun c _ => ?_
  rw [Cert.KernelIdeal.Value.partial_apply]
  refine Finset.sum_congr rfl fun k _ => ?_
  rw [rows_apply, proj_block, proj_block, proj_block]
  refine congrArg (fun d => head _ _ _ i d * _) (Fin.ext ?_)
  show k.val % 128 = (c.val * 1024 + k.val) % 128
  omega

end Cert.Equation

end
-- ==== Proof.Value.Agree.lean ====
/-
The two results as arrays: from memories that hold the same arguments, the kernel's result array is the reference's.
-/
module

public import proofs.«01_k».proof.Proof.Value.Equation

@[expose] public section

noncomputable section

namespace Cert.Equation

open Idealize.ShloMosaic
open Idealize.ShloMosaic.TcCoe

variable (m : (ℓ : Loc Cert.KernelIdeal.nD Cert.KernelIdeal.τ Cert.KernelIdeal.sig) → Buf (Elt Ideal) ℓ)
variable (x : FVec Ideal ⟨3, ![4, 256, 1024]⟩ .bf16) (wq wk wv : FVec Ideal ⟨2, ![1024, 4096]⟩ .bf16) (wo : FVec Ideal ⟨2, ![4096, 1024]⟩ .bf16)

/-- The kernel's sums of partial projections are the reference's stages, when each device holds its columns and rows of the weights. -/
theorem out_agree
    (h0 : ∀ c : Dev Cert.KernelIdeal.nD, m ((c : Thread Cert.KernelIdeal.nD Cert.KernelIdeal.τ).loc Cert.KernelIdeal.main_arg0) = x)
    (h1 : ∀ c : Dev Cert.KernelIdeal.nD, m ((c : Thread Cert.KernelIdeal.nD Cert.KernelIdeal.τ).loc Cert.KernelIdeal.main_arg1)
      = Layout.block ⟨2, ![1024, 1024]⟩ ⟨2, ![1024, 4096]⟩ 1 4 c wq)
    (h2 : ∀ c : Dev Cert.KernelIdeal.nD, m ((c : Thread Cert.KernelIdeal.nD Cert.KernelIdeal.τ).loc Cert.KernelIdeal.main_arg2)
      = Layout.block ⟨2, ![1024, 1024]⟩ ⟨2, ![4096, 1024]⟩ 0 4 c wo)
    (h3 : ∀ c : Dev Cert.KernelIdeal.nD, m ((c : Thread Cert.KernelIdeal.nD Cert.KernelIdeal.τ).loc Cert.KernelIdeal.main_arg3)
      = Layout.block ⟨2, ![1024, 1024]⟩ ⟨2, ![1024, 4096]⟩ 1 4 c wk)
    (h4 : ∀ c : Dev Cert.KernelIdeal.nD, m ((c : Thread Cert.KernelIdeal.nD Cert.KernelIdeal.τ).loc Cert.KernelIdeal.main_arg4)
      = Layout.block ⟨2, ![1024, 1024]⟩ ⟨2, ![1024, 4096]⟩ 1 4 c wv) :
    Cert.KernelIdeal.Run.OUT m = Cert.ReferenceIdeal.Value.project (Cert.ReferenceIdeal.Value.attend (Cert.ReferenceIdeal.Value.rows x wq)
      (Cert.ReferenceIdeal.Value.rows x wk) (Cert.ReferenceIdeal.Value.rows x wv)) wo := by
  funext j
  obtain ⟨b, i, n, rfl⟩ : ∃ b i n, j = (ix3 b i n : Cert.KernelIdeal.S4x256x1024.Idx) :=
    ⟨j 0, j 1, j 2, by funext a; fin_cases a <;> rfl⟩
  refine (Cert.KernelIdeal.Value.OUT_apply m b i n).trans (Eq.trans (Finset.sum_congr rfl fun c _ => ?_) (sum_partial x wq wk wv wo b i n))
  unfold Cert.KernelIdeal.Value.part
  rw [Cert.KernelIdeal.Value.xin_eq, Cert.KernelIdeal.Value.wqin_eq, Cert.KernelIdeal.Value.woin_eq, Cert.KernelIdeal.Value.wkin_eq,
    Cert.KernelIdeal.Value.wvin_eq, h0, h1, h2, h3, h4]

end Cert.Equation

end
-- ==== Proof.lean ====
/- The certificate's claims, each read off the runs proved in the modules below. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Agree
public import Idealize.ShloMosaic.Adequacy
public import Idealize.ShloMosaic.Init

@[expose] public section

noncomputable section

namespace Cert.Proof

open Idealize.ShloMosaic Idealize.SL.Sem

/-- The program as printed: every argument array is an input window of the launch, which keeps it. -/
theorem frame_kernel : Cert.quiescent_Kernel := by
  intro m ρ _
  refine (θ_run Cert.Kernel.defs _ _).mono (fun _ h => ⟨fun c => ?_, h.2⟩) (Cert.Kernel.Run.run_main (F := Bits) m ρ)
  exact ⟨(h.1 c 0).trans (Cert.Kernel.Run.finalA_in m ρ c 0 (by decide)), (h.1 c 1).trans (Cert.Kernel.Run.finalA_in m ρ c 1 (by decide)),
    (h.1 c 2).trans (Cert.Kernel.Run.finalA_in m ρ c 2 (by decide)), (h.1 c 3).trans (Cert.Kernel.Run.finalA_in m ρ c 3 (by decide)),
    (h.1 c 4).trans (Cert.Kernel.Run.finalA_in m ρ c 4 (by decide))⟩

/-- The same of the program read over the extended reals. -/
theorem frame_kernelIdeal : Cert.quiescent_KernelIdeal := by
  intro m ρ _
  refine (θ_run Cert.KernelIdeal.defs _ _).mono (fun _ h => ⟨fun c => ?_, h.2⟩) (Cert.KernelIdeal.Run.run_main (F := Ideal) m ρ)
  exact ⟨(h.1 c 0).trans (Cert.KernelIdeal.Run.finalA_in m ρ c 0 (by decide)), (h.1 c 1).trans (Cert.KernelIdeal.Run.finalA_in m ρ c 1 (by decide)),
    (h.1 c 2).trans (Cert.KernelIdeal.Run.finalA_in m ρ c 2 (by decide)), (h.1 c 3).trans (Cert.KernelIdeal.Run.finalA_in m ρ c 3 (by decide)),
    (h.1 c 4).trans (Cert.KernelIdeal.Run.finalA_in m ρ c 4 (by decide))⟩

/-- The reference: a straight line of host operations with no counter. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals the kernel's result on every device is the reference's. -/
theorem algebraic : Cert.algebraic_KernelIdeal_ReferenceIdeal := by
  intro m ρ m' ρ' _ hargs
  refine ⟨Cert.ReferenceIdeal.Value.res_main_v42 m' 0, ?_, (θ_run Cert.ReferenceIdeal.defs _ _).mono (fun r h => h 0) (Cert.ReferenceIdeal.Value.run (F := Ideal) m' ρ')⟩
  have he := (Cert.Equation.out_agree m _ _ _ _ _ (fun c => (hargs c).1) (fun c => (hargs c).2.1) (fun c => (hargs c).2.2.1)
    (fun c => (hargs c).2.2.2.1) (fun c => (hargs c).2.2.2.2)).trans (Cert.ReferenceIdeal.Value.out_eq m' 0).symm
  refine (θ_run Cert.KernelIdeal.defs _ _).mono (fun _ h c => ?_) (Cert.KernelIdeal.Run.run_main (F := Ideal) m ρ)
  exact ⟨((h.1 c 5).trans (Cert.KernelIdeal.Value.finalA_out m ρ c)).trans he,
    (h.1 c 0).trans (Cert.KernelIdeal.Run.finalA_in m ρ c 0 (by decide)), (h.1 c 1).trans (Cert.KernelIdeal.Run.finalA_in m ρ c 1 (by decide)),
    (h.1 c 2).trans (Cert.KernelIdeal.Run.finalA_in m ρ c 2 (by decide)), (h.1 c 3).trans (Cert.KernelIdeal.Run.finalA_in m ρ c 3 (by decide)),
    (h.1 c 4).trans (Cert.KernelIdeal.Run.finalA_in m ρ c 4 (by decide))⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
